-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "q_scale" .f32 0x3E0293EE#32 (((Real.sqrt 128)⁻¹ * (Real.log 2)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.blockN ⟨4, ![1, 1024, 16, 128]⟩ ⟨4, ![1, 2048, 16, 128]⟩ (Layout.meshBlock [2, 2, 4] ![[], [1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![1, 1024, 16, 128]⟩ ⟨4, ![1, 2048, 16, 128]⟩ (Layout.meshBlock [2, 2, 4] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![1, 1024, 16, 128]⟩ ⟨4, ![1, 2048, 16, 128]⟩ (Layout.meshBlock [2, 2, 4] ![[], [1], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨4, ![1, 1024, 16, 128]⟩ ⟨4, ![1, 2048, 16, 128]⟩ (Layout.meshBlock [2, 2, 4] ![[], [1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x16x128 : Shape := ⟨4, ![1, 1024, 16, 128]⟩
abbrev S_ : Shape := ⟨0, ![]⟩

class Facts : Prop where
  bcast_S_S1x1024x16x128 : S_.BroadcastsInDim S1x1024x16x128 (![] : Fin 0 → Fin S1x1024x16x128.rank)

variable [Facts]

def fn {F : FTy → Type} [FloatOps F] (main_arg0 : FVec F S1x1024x16x128 .f32) (main_arg1 : FVec F S1x1024x16x128 .f32) (main_arg2 : FVec F S1x1024x16x128 .f32) : IVec S1x1024x16x128 1 × IVec S1x1024x16x128 1 × IVec S1x1024x16x128 1 :=
  let main_v0 : FVec F S1x1024x16x128 .f32 := Host.absf main_arg0
  let main_cst : FVec F S_ .f32 := constant S_ .f32 0x7F800000#32
  let main_v1 : FVec F S1x1024x16x128 .f32 := broadcastInDim S1x1024x16x128 ![] bcast_S_S1x1024x16x128 main_cst
  let main_v2 : IVec S1x1024x16x128 1 := cmpf .olt main_v0 main_v1
  let main_v3 : FVec F S1x1024x16x128 .f32 := Host.absf main_arg1
  let main_cst_0 : FVec F S_ .f32 := constant S_ .f32 0x7F800000#32
  let main_v4 : FVec F S1x1024x16x128 .f32 := broadcastInDim S1x1024x16x128 ![] bcast_S_S1x1024x16x128 main_cst_0
  let main_v5 : IVec S1x1024x16x128 1 := cmpf .olt main_v3 main_v4
  let main_v6 : FVec F S1x1024x16x128 .f32 := Host.absf main_arg2
  let main_cst_1 : FVec F S_ .f32 := constant S_ .f32 0x7F800000#32
  let main_v7 : FVec F S1x1024x16x128 .f32 := broadcastInDim S1x1024x16x128 ![] bcast_S_S1x1024x16x128 main_cst_1
  let main_v8 : IVec S1x1024x16x128 1 := cmpf .olt main_v6 main_v7
  (main_v2, main_v5, main_v8)
-- ==== Pre_finite_ReferenceIdeal.lean ====
abbrev S1x2048x16x128 : Shape := ⟨4, ![1, 2048, 16, 128]⟩
abbrev S_ : Shape := ⟨0, ![]⟩

class Facts : Prop where
  bcast_S_S1x2048x16x128 : S_.BroadcastsInDim S1x2048x16x128 (![] : Fin 0 → Fin S1x2048x16x128.rank)

variable [Facts]

def fn {F : FTy → Type} [FloatOps F] (main_arg0 : FVec F S1x2048x16x128 .f32) (main_arg1 : FVec F S1x2048x16x128 .f32) (main_arg2 : FVec F S1x2048x16x128 .f32) : IVec S1x2048x16x128 1 × IVec S1x2048x16x128 1 × IVec S1x2048x16x128 1 :=
  let main_v0 : FVec F S1x2048x16x128 .f32 := Host.absf main_arg0
  let main_cst : FVec F S_ .f32 := constant S_ .f32 0x7F800000#32
  let main_v1 : FVec F S1x2048x16x128 .f32 := broadcastInDim S1x2048x16x128 ![] bcast_S_S1x2048x16x128 main_cst
  let main_v2 : IVec S1x2048x16x128 1 := cmpf .olt main_v0 main_v1
  let main_v3 : FVec F S1x2048x16x128 .f32 := Host.absf main_arg1
  let main_cst_0 : FVec F S_ .f32 := constant S_ .f32 0x7F800000#32
  let main_v4 : FVec F S1x2048x16x128 .f32 := broadcastInDim S1x2048x16x128 ![] bcast_S_S1x2048x16x128 main_cst_0
  let main_v5 : IVec S1x2048x16x128 1 := cmpf .olt main_v3 main_v4
  let main_v6 : FVec F S1x2048x16x128 .f32 := Host.absf main_arg2
  let main_cst_1 : FVec F S_ .f32 := constant S_ .f32 0x7F800000#32
  let main_v7 : FVec F S1x2048x16x128 .f32 := broadcastInDim S1x2048x16x128 ![] bcast_S_S1x2048x16x128 main_cst_1
  let main_v8 : IVec S1x2048x16x128 1 := cmpf .olt main_v6 main_v7
  (main_v2, main_v5, main_v8)
-- ==== Kernel.lean ====
abbrev S1x1024x16x128 : Shape := ⟨4, ![1, 1024, 16, 128]⟩
abbrev S16x1024x128 : Shape := ⟨3, ![16, 1024, 128]⟩
abbrev S32x512 : Shape := ⟨2, ![32, 512]⟩
abbrev S16 : Shape := ⟨1, ![16]⟩
abbrev S_ : Shape := ⟨0, ![]⟩
abbrev S1 : Shape := ⟨1, ![1]⟩
abbrev S1x1024x128 : Shape := ⟨3, ![1, 1024, 128]⟩
abbrev S1024x128 : Shape := ⟨2, ![1024, 128]⟩
abbrev S1x1024x1x128 : Shape := ⟨4, ![1, 1024, 1, 128]⟩
abbrev S1x512x128 : Shape := ⟨3, ![1, 512, 128]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S1x512 : Shape := ⟨2, ![1, 512]⟩

abbrev nBuf : Space → Nat
  | .hbm => 4
  | .vmem => 10
  | .smem => 0
  | _ => 0

abbrev bufTy : (tb : Table) → Fin (tcTables nBuf tb) → BufTy
  | .hbm, ⟨0, _⟩ => ⟨S1x1024x16x128, .f32⟩
  | .hbm, ⟨1, _⟩ => ⟨S1x1024x16x128, .f32⟩
  | .hbm, ⟨2, _⟩ => ⟨S1x1024x16x128, .f32⟩
  | .hbm, ⟨3, _⟩ => ⟨S1x1024x16x128, .f32⟩
  | .local _ .vmem, ⟨0, _⟩ => ⟨S16x1024x128, .f32⟩
  | .local _ .vmem, ⟨1, _⟩ => ⟨S16x1024x128, .f32⟩
  | .local _ .vmem, ⟨2, _⟩ => ⟨S16x1024x128, .f32⟩
  | .local _ .vmem, ⟨3, _⟩ => ⟨S16x1024x128, .bf16⟩
  | .local _ .vmem, ⟨4, _⟩ => ⟨S16x1024x128, .bf16⟩
  | .local _ .vmem, ⟨5, _⟩ => ⟨S16x1024x128, .bf16⟩
  | .local _ .vmem, ⟨6, _⟩ => ⟨S16x1024x128, .bf16⟩
  | .local _ .vmem, ⟨7, _⟩ => ⟨S16x1024x128, .bf16⟩
  | .local _ .vmem, ⟨8, _⟩ => ⟨S16x1024x128, .f32⟩
  | .local _ .vmem, ⟨9, _⟩ => ⟨S32x512, .f32⟩
  | _, _ => ⟨S1x1024x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 128 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | ⟨127, _⟩ => true
  | _ => false

abbrev sig : RefSig :=
  (ofTc nBuf bufTy 1 128 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4 : BitVec 32 := 8#32
  let v11 : BitVec 32 := Scalar.muli v2 c8_i32_4
  let v12 : BitVec 32 := Scalar.addi c0_i32 v11
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5 : BitVec 32 := 4#32
  let v13 : BitVec 32 := Scalar.muli v9 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_269 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_268 : BitVec 32 := 8#32
  let v221 : BitVec 32 := Scalar.muli v2 c8_i32_268
  let v222 : BitVec 32 := Scalar.addi c0_i32_269 v221
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_270 : BitVec 32 := 4#32
  let v223 : BitVec 32 := Scalar.muli v9 c4_i32_270
  let v224 : BitVec 32 := Scalar.addi v222 v223
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_271 : BitVec 32 := 1#32
  let v225 : BitVec 32 := Scalar.muli v8 c1_i32_271
  let v226 : BitVec 32 := Scalar.addi v224 v225
  v226.toNat
def k0_dev3 (d0 : Dev nD) : Nat :=
  let c0_i32_295 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_294 : BitVec 32 := 8#32
  let v245 : BitVec 32 := Scalar.muli v2 c8_i32_294
  let v246 : BitVec 32 := Scalar.addi c0_i32_295 v245
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_296 : BitVec 32 := 4#32
  let v247 : BitVec 32 := Scalar.muli v9 c4_i32_296
  let v248 : BitVec 32 := Scalar.addi v246 v247
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_297 : BitVec 32 := 1#32
  let v249 : BitVec 32 := Scalar.muli v8 c1_i32_297
  let v250 : BitVec 32 := Scalar.addi v248 v249
  v250.toNat
def k0_dev4 (d0 : Dev nD) : Nat :=
  let c0_i32_320 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_319 : BitVec 32 := 8#32
  let v269 : BitVec 32 := Scalar.muli v2 c8_i32_319
  let v270 : BitVec 32 := Scalar.addi c0_i32_320 v269
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_321 : BitVec 32 := 4#32
  let v271 : BitVec 32 := Scalar.muli v9 c4_i32_321
  let v272 : BitVec 32 := Scalar.addi v270 v271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_322 : BitVec 32 := 1#32
  let v273 : BitVec 32 := Scalar.muli v8 c1_i32_322
  let v274 : BitVec 32 := Scalar.addi v272 v273
  v274.toNat
def k0_dev5 (d0 : Dev nD) : Nat :=
  let c0_i32_346 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_345 : BitVec 32 := 8#32
  let v293 : BitVec 32 := Scalar.muli v2 c8_i32_345
  let v294 : BitVec 32 := Scalar.addi c0_i32_346 v293
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_347 : BitVec 32 := 4#32
  let v295 : BitVec 32 := Scalar.muli v9 c4_i32_347
  let v296 : BitVec 32 := Scalar.addi v294 v295
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_348 : BitVec 32 := 1#32
  let v297 : BitVec 32 := Scalar.muli v8 c1_i32_348
  let v298 : BitVec 32 := Scalar.addi v296 v297
  v298.toNat
def k0_dev6 (d0 : Dev nD) : Nat :=
  let c0_i32_371 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_370 : BitVec 32 := 8#32
  let v317 : BitVec 32 := Scalar.muli v2 c8_i32_370
  let v318 : BitVec 32 := Scalar.addi c0_i32_371 v317
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_372 : BitVec 32 := 4#32
  let v319 : BitVec 32 := Scalar.muli v9 c4_i32_372
  let v320 : BitVec 32 := Scalar.addi v318 v319
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_373 : BitVec 32 := 1#32
  let v321 : BitVec 32 := Scalar.muli v8 c1_i32_373
  let v322 : BitVec 32 := Scalar.addi v320 v321
  v322.toNat
def k0_dev7 (d0 : Dev nD) : Nat :=
  let c0_i32_397 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_396 : BitVec 32 := 8#32
  let v341 : BitVec 32 := Scalar.muli v2 c8_i32_396
  let v342 : BitVec 32 := Scalar.addi c0_i32_397 v341
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_398 : BitVec 32 := 4#32
  let v343 : BitVec 32 := Scalar.muli v9 c4_i32_398
  let v344 : BitVec 32 := Scalar.addi v342 v343
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_399 : BitVec 32 := 1#32
  let v345 : BitVec 32 := Scalar.muli v8 c1_i32_399
  let v346 : BitVec 32 := Scalar.addi v344 v345
  v346.toNat
def k0_dev8 (d0 : Dev nD) : Nat :=
  let c0_i32_422 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_421 : BitVec 32 := 8#32
  let v365 : BitVec 32 := Scalar.muli v2 c8_i32_421
  let v366 : BitVec 32 := Scalar.addi c0_i32_422 v365
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_423 : BitVec 32 := 4#32
  let v367 : BitVec 32 := Scalar.muli v9 c4_i32_423
  let v368 : BitVec 32 := Scalar.addi v366 v367
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_424 : BitVec 32 := 1#32
  let v369 : BitVec 32 := Scalar.muli v8 c1_i32_424
  let v370 : BitVec 32 := Scalar.addi v368 v369
  v370.toNat
def k0_dev9 (d0 : Dev nD) : Nat :=
  let c0_i32_448 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_447 : BitVec 32 := 8#32
  let v389 : BitVec 32 := Scalar.muli v2 c8_i32_447
  let v390 : BitVec 32 := Scalar.addi c0_i32_448 v389
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_449 : BitVec 32 := 4#32
  let v391 : BitVec 32 := Scalar.muli v9 c4_i32_449
  let v392 : BitVec 32 := Scalar.addi v390 v391
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_450 : BitVec 32 := 1#32
  let v393 : BitVec 32 := Scalar.muli v8 c1_i32_450
  let v394 : BitVec 32 := Scalar.addi v392 v393
  v394.toNat
def k0_dev10 (d0 : Dev nD) : Nat :=
  let c0_i32_473 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_472 : BitVec 32 := 8#32
  let v413 : BitVec 32 := Scalar.muli v2 c8_i32_472
  let v414 : BitVec 32 := Scalar.addi c0_i32_473 v413
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_474 : BitVec 32 := 4#32
  let v415 : BitVec 32 := Scalar.muli v9 c4_i32_474
  let v416 : BitVec 32 := Scalar.addi v414 v415
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_475 : BitVec 32 := 1#32
  let v417 : BitVec 32 := Scalar.muli v8 c1_i32_475
  let v418 : BitVec 32 := Scalar.addi v416 v417
  v418.toNat
def k0_dev11 (d0 : Dev nD) : Nat :=
  let c0_i32_499 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_498 : BitVec 32 := 8#32
  let v437 : BitVec 32 := Scalar.muli v2 c8_i32_498
  let v438 : BitVec 32 := Scalar.addi c0_i32_499 v437
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_500 : BitVec 32 := 4#32
  let v439 : BitVec 32 := Scalar.muli v9 c4_i32_500
  let v440 : BitVec 32 := Scalar.addi v438 v439
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_501 : BitVec 32 := 1#32
  let v441 : BitVec 32 := Scalar.muli v8 c1_i32_501
  let v442 : BitVec 32 := Scalar.addi v440 v441
  v442.toNat
def k0_dev12 (d0 : Dev nD) : Nat :=
  let c0_i32_524 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_523 : BitVec 32 := 8#32
  let v461 : BitVec 32 := Scalar.muli v2 c8_i32_523
  let v462 : BitVec 32 := Scalar.addi c0_i32_524 v461
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_525 : BitVec 32 := 4#32
  let v463 : BitVec 32 := Scalar.muli v9 c4_i32_525
  let v464 : BitVec 32 := Scalar.addi v462 v463
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_526 : BitVec 32 := 1#32
  let v465 : BitVec 32 := Scalar.muli v8 c1_i32_526
  let v466 : BitVec 32 := Scalar.addi v464 v465
  v466.toNat
def k0_dev13 (d0 : Dev nD) : Nat :=
  let c0_i32_550 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_549 : BitVec 32 := 8#32
  let v485 : BitVec 32 := Scalar.muli v2 c8_i32_549
  let v486 : BitVec 32 := Scalar.addi c0_i32_550 v485
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_551 : BitVec 32 := 4#32
  let v487 : BitVec 32 := Scalar.muli v9 c4_i32_551
  let v488 : BitVec 32 := Scalar.addi v486 v487
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_552 : BitVec 32 := 1#32
  let v489 : BitVec 32 := Scalar.muli v8 c1_i32_552
  let v490 : BitVec 32 := Scalar.addi v488 v489
  v490.toNat
def k0_dev14 (d0 : Dev nD) : Nat :=
  let c0_i32_575 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_574 : BitVec 32 := 8#32
  let v509 : BitVec 32 := Scalar.muli v2 c8_i32_574
  let v510 : BitVec 32 := Scalar.addi c0_i32_575 v509
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_576 : BitVec 32 := 4#32
  let v511 : BitVec 32 := Scalar.muli v9 c4_i32_576
  let v512 : BitVec 32 := Scalar.addi v510 v511
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_577 : BitVec 32 := 1#32
  let v513 : BitVec 32 := Scalar.muli v8 c1_i32_577
  let v514 : BitVec 32 := Scalar.addi v512 v513
  v514.toNat
def k0_dev15 (d0 : Dev nD) : Nat :=
  let c0_i32_601 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_600 : BitVec 32 := 8#32
  let v533 : BitVec 32 := Scalar.muli v2 c8_i32_600
  let v534 : BitVec 32 := Scalar.addi c0_i32_601 v533
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_602 : BitVec 32 := 4#32
  let v535 : BitVec 32 := Scalar.muli v9 c4_i32_602
  let v536 : BitVec 32 := Scalar.addi v534 v535
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_603 : BitVec 32 := 1#32
  let v537 : BitVec 32 := Scalar.muli v8 c1_i32_603
  let v538 : BitVec 32 := Scalar.addi v536 v537
  v538.toNat
def k0_dev16 (d0 : Dev nD) : Nat :=
  let c0_i32_626 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_625 : BitVec 32 := 8#32
  let v557 : BitVec 32 := Scalar.muli v2 c8_i32_625
  let v558 : BitVec 32 := Scalar.addi c0_i32_626 v557
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_627 : BitVec 32 := 4#32
  let v559 : BitVec 32 := Scalar.muli v9 c4_i32_627
  let v560 : BitVec 32 := Scalar.addi v558 v559
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_628 : BitVec 32 := 1#32
  let v561 : BitVec 32 := Scalar.muli v8 c1_i32_628
  let v562 : BitVec 32 := Scalar.addi v560 v561
  v562.toNat
def k0_dev17 (d0 : Dev nD) : Nat :=
  let c0_i32_652 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_651 : BitVec 32 := 8#32
  let v581 : BitVec 32 := Scalar.muli v2 c8_i32_651
  let v582 : BitVec 32 := Scalar.addi c0_i32_652 v581
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_653 : BitVec 32 := 4#32
  let v583 : BitVec 32 := Scalar.muli v9 c4_i32_653
  let v584 : BitVec 32 := Scalar.addi v582 v583
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_654 : BitVec 32 := 1#32
  let v585 : BitVec 32 := Scalar.muli v8 c1_i32_654
  let v586 : BitVec 32 := Scalar.addi v584 v585
  v586.toNat
def k0_dev18 (d0 : Dev nD) : Nat :=
  let c0_i32_677 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_676 : BitVec 32 := 8#32
  let v605 : BitVec 32 := Scalar.muli v2 c8_i32_676
  let v606 : BitVec 32 := Scalar.addi c0_i32_677 v605
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_678 : BitVec 32 := 4#32
  let v607 : BitVec 32 := Scalar.muli v9 c4_i32_678
  let v608 : BitVec 32 := Scalar.addi v606 v607
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_679 : BitVec 32 := 1#32
  let v609 : BitVec 32 := Scalar.muli v8 c1_i32_679
  let v610 : BitVec 32 := Scalar.addi v608 v609
  v610.toNat
def k0_dev19 (d0 : Dev nD) : Nat :=
  let c0_i32_703 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_702 : BitVec 32 := 8#32
  let v629 : BitVec 32 := Scalar.muli v2 c8_i32_702
  let v630 : BitVec 32 := Scalar.addi c0_i32_703 v629
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_704 : BitVec 32 := 4#32
  let v631 : BitVec 32 := Scalar.muli v9 c4_i32_704
  let v632 : BitVec 32 := Scalar.addi v630 v631
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_705 : BitVec 32 := 1#32
  let v633 : BitVec 32 := Scalar.muli v8 c1_i32_705
  let v634 : BitVec 32 := Scalar.addi v632 v633
  v634.toNat
def k0_dev20 (d0 : Dev nD) : Nat :=
  let c0_i32_728 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_727 : BitVec 32 := 8#32
  let v653 : BitVec 32 := Scalar.muli v2 c8_i32_727
  let v654 : BitVec 32 := Scalar.addi c0_i32_728 v653
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_729 : BitVec 32 := 4#32
  let v655 : BitVec 32 := Scalar.muli v9 c4_i32_729
  let v656 : BitVec 32 := Scalar.addi v654 v655
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_730 : BitVec 32 := 1#32
  let v657 : BitVec 32 := Scalar.muli v8 c1_i32_730
  let v658 : BitVec 32 := Scalar.addi v656 v657
  v658.toNat
def k0_dev21 (d0 : Dev nD) : Nat :=
  let c0_i32_754 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_753 : BitVec 32 := 8#32
  let v677 : BitVec 32 := Scalar.muli v2 c8_i32_753
  let v678 : BitVec 32 := Scalar.addi c0_i32_754 v677
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_755 : BitVec 32 := 4#32
  let v679 : BitVec 32 := Scalar.muli v9 c4_i32_755
  let v680 : BitVec 32 := Scalar.addi v678 v679
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_756 : BitVec 32 := 1#32
  let v681 : BitVec 32 := Scalar.muli v8 c1_i32_756
  let v682 : BitVec 32 := Scalar.addi v680 v681
  v682.toNat
def k0_dev22 (d0 : Dev nD) : Nat :=
  let c0_i32_779 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_778 : BitVec 32 := 8#32
  let v701 : BitVec 32 := Scalar.muli v2 c8_i32_778
  let v702 : BitVec 32 := Scalar.addi c0_i32_779 v701
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_780 : BitVec 32 := 4#32
  let v703 : BitVec 32 := Scalar.muli v9 c4_i32_780
  let v704 : BitVec 32 := Scalar.addi v702 v703
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_781 : BitVec 32 := 1#32
  let v705 : BitVec 32 := Scalar.muli v8 c1_i32_781
  let v706 : BitVec 32 := Scalar.addi v704 v705
  v706.toNat
def k0_dev23 (d0 : Dev nD) : Nat :=
  let c0_i32_805 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_804 : BitVec 32 := 8#32
  let v725 : BitVec 32 := Scalar.muli v2 c8_i32_804
  let v726 : BitVec 32 := Scalar.addi c0_i32_805 v725
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_806 : BitVec 32 := 4#32
  let v727 : BitVec 32 := Scalar.muli v9 c4_i32_806
  let v728 : BitVec 32 := Scalar.addi v726 v727
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_807 : BitVec 32 := 1#32
  let v729 : BitVec 32 := Scalar.muli v8 c1_i32_807
  let v730 : BitVec 32 := Scalar.addi v728 v729
  v730.toNat
def k0_dev24 (d0 : Dev nD) : Nat :=
  let c0_i32_830 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_829 : BitVec 32 := 8#32
  let v749 : BitVec 32 := Scalar.muli v2 c8_i32_829
  let v750 : BitVec 32 := Scalar.addi c0_i32_830 v749
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_831 : BitVec 32 := 4#32
  let v751 : BitVec 32 := Scalar.muli v9 c4_i32_831
  let v752 : BitVec 32 := Scalar.addi v750 v751
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_832 : BitVec 32 := 1#32
  let v753 : BitVec 32 := Scalar.muli v8 c1_i32_832
  let v754 : BitVec 32 := Scalar.addi v752 v753
  v754.toNat
def k0_dev25 (d0 : Dev nD) : Nat :=
  let c0_i32_856 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_855 : BitVec 32 := 8#32
  let v773 : BitVec 32 := Scalar.muli v2 c8_i32_855
  let v774 : BitVec 32 := Scalar.addi c0_i32_856 v773
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_857 : BitVec 32 := 4#32
  let v775 : BitVec 32 := Scalar.muli v9 c4_i32_857
  let v776 : BitVec 32 := Scalar.addi v774 v775
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_858 : BitVec 32 := 1#32
  let v777 : BitVec 32 := Scalar.muli v8 c1_i32_858
  let v778 : BitVec 32 := Scalar.addi v776 v777
  v778.toNat
def k0_dev26 (d0 : Dev nD) : Nat :=
  let c0_i32_881 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_880 : BitVec 32 := 8#32
  let v797 : BitVec 32 := Scalar.muli v2 c8_i32_880
  let v798 : BitVec 32 := Scalar.addi c0_i32_881 v797
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_882 : BitVec 32 := 4#32
  let v799 : BitVec 32 := Scalar.muli v9 c4_i32_882
  let v800 : BitVec 32 := Scalar.addi v798 v799
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_883 : BitVec 32 := 1#32
  let v801 : BitVec 32 := Scalar.muli v8 c1_i32_883
  let v802 : BitVec 32 := Scalar.addi v800 v801
  v802.toNat
def k0_dev27 (d0 : Dev nD) : Nat :=
  let c0_i32_907 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_906 : BitVec 32 := 8#32
  let v821 : BitVec 32 := Scalar.muli v2 c8_i32_906
  let v822 : BitVec 32 := Scalar.addi c0_i32_907 v821
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_908 : BitVec 32 := 4#32
  let v823 : BitVec 32 := Scalar.muli v9 c4_i32_908
  let v824 : BitVec 32 := Scalar.addi v822 v823
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_909 : BitVec 32 := 1#32
  let v825 : BitVec 32 := Scalar.muli v8 c1_i32_909
  let v826 : BitVec 32 := Scalar.addi v824 v825
  v826.toNat
def k0_dev28 (d0 : Dev nD) : Nat :=
  let c0_i32_932 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_931 : BitVec 32 := 8#32
  let v845 : BitVec 32 := Scalar.muli v2 c8_i32_931
  let v846 : BitVec 32 := Scalar.addi c0_i32_932 v845
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_933 : BitVec 32 := 4#32
  let v847 : BitVec 32 := Scalar.muli v9 c4_i32_933
  let v848 : BitVec 32 := Scalar.addi v846 v847
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_934 : BitVec 32 := 1#32
  let v849 : BitVec 32 := Scalar.muli v8 c1_i32_934
  let v850 : BitVec 32 := Scalar.addi v848 v849
  v850.toNat
def k0_dev29 (d0 : Dev nD) : Nat :=
  let c0_i32_958 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_957 : BitVec 32 := 8#32
  let v869 : BitVec 32 := Scalar.muli v2 c8_i32_957
  let v870 : BitVec 32 := Scalar.addi c0_i32_958 v869
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_959 : BitVec 32 := 4#32
  let v871 : BitVec 32 := Scalar.muli v9 c4_i32_959
  let v872 : BitVec 32 := Scalar.addi v870 v871
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_960 : BitVec 32 := 1#32
  let v873 : BitVec 32 := Scalar.muli v8 c1_i32_960
  let v874 : BitVec 32 := Scalar.addi v872 v873
  v874.toNat
def k0_dev30 (d0 : Dev nD) : Nat :=
  let c0_i32_983 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_982 : BitVec 32 := 8#32
  let v893 : BitVec 32 := Scalar.muli v2 c8_i32_982
  let v894 : BitVec 32 := Scalar.addi c0_i32_983 v893
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_984 : BitVec 32 := 4#32
  let v895 : BitVec 32 := Scalar.muli v9 c4_i32_984
  let v896 : BitVec 32 := Scalar.addi v894 v895
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_985 : BitVec 32 := 1#32
  let v897 : BitVec 32 := Scalar.muli v8 c1_i32_985
  let v898 : BitVec 32 := Scalar.addi v896 v897
  v898.toNat
def k0_dev31 (d0 : Dev nD) : Nat :=
  let c0_i32_1009 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1008 : BitVec 32 := 8#32
  let v917 : BitVec 32 := Scalar.muli v2 c8_i32_1008
  let v918 : BitVec 32 := Scalar.addi c0_i32_1009 v917
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1010 : BitVec 32 := 4#32
  let v919 : BitVec 32 := Scalar.muli v9 c4_i32_1010
  let v920 : BitVec 32 := Scalar.addi v918 v919
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1011 : BitVec 32 := 1#32
  let v921 : BitVec 32 := Scalar.muli v8 c1_i32_1011
  let v922 : BitVec 32 := Scalar.addi v920 v921
  v922.toNat
def k0_dev32 (d0 : Dev nD) : Nat :=
  let c0_i32_1034 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1033 : BitVec 32 := 8#32
  let v941 : BitVec 32 := Scalar.muli v2 c8_i32_1033
  let v942 : BitVec 32 := Scalar.addi c0_i32_1034 v941
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1035 : BitVec 32 := 4#32
  let v943 : BitVec 32 := Scalar.muli v9 c4_i32_1035
  let v944 : BitVec 32 := Scalar.addi v942 v943
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1036 : BitVec 32 := 1#32
  let v945 : BitVec 32 := Scalar.muli v8 c1_i32_1036
  let v946 : BitVec 32 := Scalar.addi v944 v945
  v946.toNat
def k0_dev33 (d0 : Dev nD) : Nat :=
  let c0_i32_1060 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1059 : BitVec 32 := 8#32
  let v965 : BitVec 32 := Scalar.muli v2 c8_i32_1059
  let v966 : BitVec 32 := Scalar.addi c0_i32_1060 v965
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1061 : BitVec 32 := 4#32
  let v967 : BitVec 32 := Scalar.muli v9 c4_i32_1061
  let v968 : BitVec 32 := Scalar.addi v966 v967
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1062 : BitVec 32 := 1#32
  let v969 : BitVec 32 := Scalar.muli v8 c1_i32_1062
  let v970 : BitVec 32 := Scalar.addi v968 v969
  v970.toNat
@[reducible] def k0_t1_loop : Scf.Loop 32 :=
  let c0_i32_1436 : BitVec 32 := 0#32
  let c32_i32 : BitVec 32 := 32#32
  let v1297 : BitVec 32 := Scalar.addi c0_i32_1436 c32_i32
  let c1_i32_1437 : BitVec 32 := 1#32
  ⟨c0_i32_1436, v1297, c1_i32_1437⟩
def k0_off1 (k0_t1 : Fin k0_t1_loop.trips) : Fin 3 → Nat :=
  let c0_i32_1436 : BitVec 32 := 0#32
  let c1_i32_1437 : BitVec 32 := 1#32
  let arg22 : BitVec 32 := Scf.iv c0_i32_1436 c1_i32_1437 k0_t1
  let c0_i32_2991 : BitVec 32 := 0#32
  let v2707 : BitVec 1 := Scalar.cmpi .sgt arg22 c0_i32_2991
  let v2708 : BitVec 32 := Scalar.extui v2707
  let c0_i32_2992 : BitVec 32 := 0#32
  let v2709 : BitVec 1 := Scalar.cmpi .slt arg22 c0_i32_2992
  let v2710 : BitVec 32 := Scalar.extui v2709
  let v2711 : BitVec 32 := Scalar.subi v2708 v2710
  let c2_i32_2990 : BitVec 32 := 2#32
  let c0_i32_2993 : BitVec 32 := 0#32
  let v2712 : BitVec 1 := Scalar.cmpi .sgt c2_i32_2990 c0_i32_2993
  let v2713 : BitVec 32 := Scalar.extui v2712
  let c0_i32_2994 : BitVec 32 := 0#32
  let v2714 : BitVec 1 := Scalar.cmpi .slt c2_i32_2990 c0_i32_2994
  let v2715 : BitVec 32 := Scalar.extui v2714
  let v2716 : BitVec 32 := Scalar.subi v2713 v2715
  let v2717 : BitVec 1 := Scalar.cmpi .ne v2711 v2716
  let v2718 : BitVec 32 := Scalar.remsi arg22 c2_i32_2990
  let c0_i32_2995 : BitVec 32 := 0#32
  let v2719 : BitVec 1 := Scalar.cmpi .ne v2718 c0_i32_2995
  let v2720 : BitVec 1 := Scalar.andi v2717 v2719
  let v2706 : BitVec 32 := Scalar.divsi arg22 c2_i32_2990
  let c1_i32_2996 : BitVec 32 := 1#32
  let v2721 : BitVec 32 := Scalar.subi v2706 c1_i32_2996
  let v2722 : BitVec 32 := Scalar.select v2720 v2721 v2706
  let v2734 : Index := Scalar.indexCast v2722
  let c2_i32_2997 : BitVec 32 := 2#32
  let c0_i32_2998 : BitVec 32 := 0#32
  let v2723 : BitVec 1 := Scalar.cmpi .eq c2_i32_2997 c0_i32_2998
  let c1_i32_2999 : BitVec 32 := 1#32
  let v2724 : BitVec 32 := Scalar.select v2723 c1_i32_2999 c2_i32_2997
  let v2725 : BitVec 32 := Scalar.remsi arg22 v2724
  let c0_i32_3001 : BitVec 32 := 0#32
  let v2727 : BitVec 1 := Scalar.cmpi .slt v2725 c0_i32_3001
  let c0_i32_3002 : BitVec 32 := 0#32
  let v2728 : BitVec 1 := Scalar.cmpi .slt v2724 c0_i32_3002
  let v2729 : BitVec 1 := Scalar.xori v2727 v2728
  let c0_i32_3000 : BitVec 32 := 0#32
  let v2726 : BitVec 1 := Scalar.cmpi .ne v2725 c0_i32_3000
  let v2730 : BitVec 1 := Scalar.andi v2729 v2726
  let v2731 : BitVec 32 := Scalar.addi v2725 v2724
  let v2732 : BitVec 32 := Scalar.select v2730 v2731 v2725
  let c512_i32 : BitVec 32 := 512#32
  let v2733 : BitVec 32 := Scalar.muli v2732 c512_i32
  let v2735 : Index := Scalar.indexCast v2733
  let c0_3003 : Index := 0#32
  ![v2734.toNat, v2735.toNat, 0]
def k0_off2 (k0_t1 : Fin k0_t1_loop.trips) : Fin 3 → Nat :=
  let c0_i32_1436 : BitVec 32 := 0#32
  let c1_i32_1437 : BitVec 32 := 1#32
  let arg22 : BitVec 32 := Scf.iv c0_i32_1436 c1_i32_1437 k0_t1
  let c0_i32_2991 : BitVec 32 := 0#32
  let v2707 : BitVec 1 := Scalar.cmpi .sgt arg22 c0_i32_2991
  let v2708 : BitVec 32 := Scalar.extui v2707
  let c0_i32_2992 : BitVec 32 := 0#32
  let v2709 : BitVec 1 := Scalar.cmpi .slt arg22 c0_i32_2992
  let v2710 : BitVec 32 := Scalar.extui v2709
  let v2711 : BitVec 32 := Scalar.subi v2708 v2710
  let c2_i32_2990 : BitVec 32 := 2#32
  let c0_i32_2993 : BitVec 32 := 0#32
  let v2712 : BitVec 1 := Scalar.cmpi .sgt c2_i32_2990 c0_i32_2993
  let v2713 : BitVec 32 := Scalar.extui v2712
  let c0_i32_2994 : BitVec 32 := 0#32
  let v2714 : BitVec 1 := Scalar.cmpi .slt c2_i32_2990 c0_i32_2994
  let v2715 : BitVec 32 := Scalar.extui v2714
  let v2716 : BitVec 32 := Scalar.subi v2713 v2715
  let v2717 : BitVec 1 := Scalar.cmpi .ne v2711 v2716
  let v2718 : BitVec 32 := Scalar.remsi arg22 c2_i32_2990
  let c0_i32_2995 : BitVec 32 := 0#32
  let v2719 : BitVec 1 := Scalar.cmpi .ne v2718 c0_i32_2995
  let v2720 : BitVec 1 := Scalar.andi v2717 v2719
  let v2706 : BitVec 32 := Scalar.divsi arg22 c2_i32_2990
  let c1_i32_2996 : BitVec 32 := 1#32
  let v2721 : BitVec 32 := Scalar.subi v2706 c1_i32_2996
  let v2722 : BitVec 32 := Scalar.select v2720 v2721 v2706
  let v2738 : Index := Scalar.indexCast v2722
  let c0_3004 : Index := 0#32
  let c0_3005 : Index := 0#32
  ![v2738.toNat, 0, 0]
def k0_off3 (k0_t1 : Fin k0_t1_loop.trips) : Fin 2 → Nat :=
  let c0_i32_1436 : BitVec 32 := 0#32
  let c1_i32_1437 : BitVec 32 := 1#32
  let arg22 : BitVec 32 := Scf.iv c0_i32_1436 c1_i32_1437 k0_t1
  let v2757 : Index := Scalar.indexCast arg22
  let c0_3013 : Index := 0#32
  ![v2757.toNat, 0]
-- ==== KernelIdeal.lean ====
variable {F : FTy → Type} [FloatOps F] [Named F]
def κ : String → Option EReal := fun
  | "q_scale" => some (((Real.sqrt 128)⁻¹ * (Real.log 2)⁻¹ : ℝ) : EReal)
  | _ => none
-- ==== ReferenceIdeal.lean ====
abbrev S1x2048x16x128 : Shape := ⟨4, ![1, 2048, 16, 128]⟩
abbrev S1x16x2048x2048 : Shape := ⟨4, ![1, 16, 2048, 2048]⟩
abbrev S_ : Shape := ⟨0, ![]⟩
abbrev S1x16x2048 : Shape := ⟨3, ![1, 16, 2048]⟩
abbrev S1x16x2048x1 : Shape := ⟨4, ![1, 16, 2048, 1]⟩
abbrev S1x16x128x2048 : Shape := ⟨4, ![1, 16, 128, 2048]⟩

abbrev nBuf : Space → Nat
  | .hbm => 21
  | .vmem => 0
  | .smem => 0
  | _ => 0

abbrev bufTy : (tb : Table) → Fin (tcTables nBuf tb) → BufTy
  | .hbm, ⟨0, _⟩ => ⟨S1x2048x16x128, .f32⟩
  | .hbm, ⟨1, _⟩ => ⟨S1x2048x16x128, .f32⟩
  | .hbm, ⟨2, _⟩ => ⟨S1x2048x16x128, .f32⟩
  | .hbm, ⟨3, _⟩ => ⟨S1x16x2048x2048, .f32⟩
  | .hbm, ⟨4, _⟩ => ⟨S_, .f32⟩
  | .hbm, ⟨5, _⟩ => ⟨S_, .f32⟩
  | .hbm, ⟨6, _⟩ => ⟨S1x16x2048x2048, .f32⟩
  | .hbm, ⟨7, _⟩ => ⟨S1x16x2048x2048, .f32⟩
  | .hbm, ⟨8, _⟩ => ⟨S_, .f32⟩
  | .hbm, ⟨9, _⟩ => ⟨S1x16x2048, .f32⟩
  | .hbm, ⟨10, _⟩ => ⟨S1x16x2048x1, .f32⟩
  | .hbm, ⟨11, _⟩ => ⟨S1x16x2048x2048, .f32⟩
  | .hbm, ⟨12, _⟩ => ⟨S1x16x2048x2048, .f32⟩
  | .hbm, ⟨13, _⟩ => ⟨S1x16x2048x2048, .f32⟩
  | .hbm, ⟨14, _⟩ => ⟨S_, .f32⟩
  | .hbm, ⟨15, _⟩ => ⟨S1x16x2048, .f32⟩
  | .hbm, ⟨16, _⟩ => ⟨S1x16x2048x1, .f32⟩
  | .hbm, ⟨17, _⟩ => ⟨S1x16x2048x2048, .f32⟩
  | .hbm, ⟨18, _⟩ => ⟨S1x16x2048x2048, .f32⟩
  | .hbm, ⟨19, _⟩ => ⟨S1x16x128x2048, .f32⟩
  | .hbm, ⟨20, _⟩ => ⟨S1x2048x16x128, .f32⟩
  | _, _ => ⟨S1x2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Struct.lean ====
/- The kernel's body as a short structured program: each of its nine stretches is one generic step run for
   the sixteen heads in order. `body_eq` says the printed body is that program. -/
module

public import proofs.«01_k».proof.Proof.Gen.KernelIdeal
public import proofs.«01_k».proof.Proof.Gen.KernelIdeal.Skeleton
public import proofs.«01_k».proof.Proof.Gen.KernelIdeal.Points
public import Idealize.ShloMosaic.Lib.Pipeline.Regions

@[expose] public section

set_option maxRecDepth 16384

noncomputable section

namespace Cert.KernelIdeal.Att

open Idealize.ShloMosaic Idealize.ShloMosaic.TcCoe Idealize.SL.Sem
open Cert.KernelIdeal Cert.KernelIdeal.Gen

variable {F : FTy → Type} [FloatOps F] [Named F]

/-- The programs the body is made of. -/
abbrev Pg (F : FTy → Type) (α : Type) := Prog (TpuEff nD τ sig (Elt F) Λ₀ .tc) α

/-- A step run for each entry of a list, in order. -/
def runL {E : Type → Type} {I : Type} (f : I → Prog E PUnit) : List I → Prog E PUnit
  | [] => .ret ⟨⟩
  | i :: l => f i >>= fun _ => runL f l

/-- The sixteen heads in order. -/
def heads : List (Fin 16) := [0, 1, 2, 3, 4, 5, 6, 7, 8, 9, 10, 11, 12, 13, 14, 15]

/-! ## Rectangles of a head -/

theorem inbSem (h : Fin 16) : ∀ a, (![h.val] : Fin 1 → Nat) a + S1.size a ≤ S16.size a := by
  revert h; decide
theorem inbRow (h : Fin 16) : ∀ a, (![h.val, 0, 0] : Fin 3 → Nat) a + S1x1024x128.size a ≤ S16x1024x128.size a := by
  revert h; decide
theorem inbCol (h : Fin 16) : ∀ a, (![0, 0, h.val, 0] : Fin 4 → Nat) a + S1x1024x1x128.size a ≤ S1x1024x16x128.size a := by
  revert h; decide
theorem inbChunk (h : Fin 16) (r : Fin 2) :
    ∀ a, (![h.val, 512 * r.val, 0] : Fin 3 → Nat) a + S1x512x128.size a ≤ S16x1024x128.size a := by
  revert h r; decide
theorem inbSum (h : Fin 16) (r : Fin 2) :
    ∀ a, (![2 * h.val + r.val, 0] : Fin 2 → Nat) a + S1x512.size a ≤ S32x512.size a := by
  revert h r; decide

/-- Row `h` of a `16×1024×128` buffer. -/
abbrev rRow (h : Fin 16) : Rect S16x1024x128 := Rect.unit (s := S16x1024x128) ![h.val, 0, 0] S1x1024x128.size (inbRow h)
/-- Head `h` of a `1×1024×16×128` array. -/
abbrev rCol (h : Fin 16) : Rect S1x1024x16x128 := Rect.unit (s := S1x1024x16x128) ![0, 0, h.val, 0] S1x1024x1x128.size (inbCol h)
/-- Half `r` of row `h` of a `16×1024×128` buffer. -/
abbrev rChunk (h : Fin 16) (r : Fin 2) : Rect S16x1024x128 :=
  Rect.unit (s := S16x1024x128) ![h.val, 512 * r.val, 0] S1x512x128.size (inbChunk h r)
/-- The row of sums of half `r` of head `h`. -/
abbrev rSum (h : Fin 16) (r : Fin 2) : Rect S32x512 := Rect.unit (s := S32x512) ![2 * h.val + r.val, 0] S1x512.size (inbSum h r)

theorem packedRow (h : Fin 16) : (rRow h).PackedRows (EltTy.packing .bf16) := by revert h; decide +kernel
theorem wordsRow (h : Fin 16) : (rRow h).WholeWords (EltTy.packing .bf16) := by revert h; decide +kernel

/-! ## Memrefs of a head -/

/-- Row `h` of a scratch buffer, as a transfer names it. -/
abbrev row3 {sp : Space} {e : EltTy} (b : Memref sig .tc sp S16x1024x128 e) (h : Fin 16) : Memref sig .tc sp S1x1024x128 e :=
  b.slice (rRow h) (fun _ => rfl)
/-- Row `h` of a scratch buffer with its unit axis dropped. -/
abbrev row2 {sp : Space} {e : EltTy} (b : Memref sig .tc sp S16x1024x128 e) (h : Fin 16) : Memref sig .tc sp S1024x128 e :=
  (b.slice (rRow h) (fun _ => rfl)).squeeze S1024x128 squeezes_S1x1024x128_S1024x128
/-- Head `h` of a device array with its unit axes dropped. -/
abbrev col2 {sp : Space} {e : EltTy} (b : Memref sig .tc sp S1x1024x16x128 e) (h : Fin 16) : Memref sig .tc sp S1024x128 e :=
  (b.slice (rCol h) (fun _ => rfl)).squeeze S1024x128 squeezes_S1x1024x1x128_S1024x128
/-- Semaphore `h` of an array of sixteen. -/
abbrev semAt (a : DmaSems sig S16) (h : Fin 16) : DmaSem sig :=
  ((a.slice (Rect.unit (s := S16) ![h.val] S1.size (inbSem h))).squeeze S_ squeezes_S1_S_).sem

abbrev mQ : Memref sig .tc .hbm S1x1024x16x128 .f32 := Memref.whole main_arg0
abbrev mK : Memref sig .tc .hbm S1x1024x16x128 .f32 := Memref.whole main_arg1
abbrev mV : Memref sig .tc .hbm S1x1024x16x128 .f32 := Memref.whole main_arg2
abbrev mO : Memref sig .tc .hbm S1x1024x16x128 .f32 := Memref.whole main_v1
abbrev kst : Memref sig .tc .vmem S16x1024x128 .f32 := Memref.whole cc0_scratch0
abbrev vst : Memref sig .tc .vmem S16x1024x128 .f32 := Memref.whole cc0_scratch1
abbrev qst : Memref sig .tc .vmem S16x1024x128 .f32 := Memref.whole cc0_scratch2
abbrev kb : Memref sig .tc .vmem S16x1024x128 .bf16 := Memref.whole cc0_scratch3
abbrev vb : Memref sig .tc .vmem S16x1024x128 .bf16 := Memref.whole cc0_scratch4
abbrev qb : Memref sig .tc .vmem S16x1024x128 .bf16 := Memref.whole cc0_scratch5
abbrev ck : Memref sig .tc .vmem S16x1024x128 .bf16 := Memref.whole cc0_scratch6
abbrev cv : Memref sig .tc .vmem S16x1024x128 .bf16 := Memref.whole cc0_scratch7
abbrev ov : Memref sig .tc .vmem S16x1024x128 .f32 := Memref.whole cc0_scratch8
abbrev ls : Memref sig .tc .vmem S32x512 .f32 := Memref.whole cc0_scratch9

/-- A whole `bf16` buffer's row covers whole words. -/
theorem rowWords {b : Memref sig .tc .vmem S16x1024x128 .bf16} (hb : b.IsWhole) (h : Fin 16) : (row3 b h).view.WordExact :=
  hb.wordExact_slice rfl _ (wordsRow h)

/-! ## Payloads -/

/-- What is stored of a row of keys or values. -/
def castRow (v : Vec F S1x1024x128 .f32) : FVec F S1x1024x128 .bf16 := k0_pay5 (k0_pay4 v)
/-- What is stored of a row of queries: scaled, then cast. -/
def castQ (v : Vec F S1x1024x128 .f32) : FVec F S1x1024x128 .bf16 := k0_pay40 v
/-- The weighted values of half a row of queries over the device's own keys. -/
def ownOut (q : Vec F S1x512x128 .bf16) (k v : Vec F S1x1024x128 .bf16) : FVec F S1x512x128 .f32 := k0_pay59 (k0_pay3 q k) v
/-- The weights' sums of half a row of queries over the device's own keys. -/
def ownSum (q : Vec F S1x512x128 .bf16) (k : Vec F S1x1024x128 .bf16) : FVec F S1x512 .f32 := k0_pay60 (k0_pay2 q k)
/-- The result's half row: both devices' weighted values over both devices' sums. -/
def joined (q : Vec F S1x512x128 .bf16) (k v : Vec F S1x1024x128 .bf16) (l : Vec F S1x512 .f32) (o : Vec F S1x512x128 .f32) :
    FVec F S1x512x128 .f32 := k0_pay61 q k v l o

/-! ## The steps -/

/-- The device the kernel on `d` talks to. -/
def tgt (d : Dev nD) : Dev nD := ⟨k0_dev1 d, k0_dev1_lt d⟩

/-- A head of an array is fetched into its row. -/
def fetch (a : Memref sig .tc .hbm S1x1024x16x128 .f32) (b : Memref sig .tc .vmem S16x1024x128 .f32) (s : DmaSems sig S16)
    (h : Fin 16) : Pg F PUnit :=
  Prog.lift (.enqueueDma (col2 a h) (.here (row2 b h)) (.dma (semAt s h)) ((View.wordExact_bits rfl).reshape _ _)
    ((View.wordExact_bits rfl).reshape _ _) ⟨Or.inl rfl, trivial⟩)

/-- The fetch of a head is waited for. -/
def waitFetch (a : Memref sig .tc .hbm S1x1024x16x128 .f32) (b : Memref sig .tc .vmem S16x1024x128 .f32) (s : DmaSems sig S16)
    (h : Fin 16) : Pg F PUnit :=
  Prog.lift (.waitDma2 (semAt s h) (col2 a h) (row2 b h) ((View.wordExact_bits rfl).reshape _ _)
    ((View.wordExact_bits rfl).reshape _ _))

/-- A fetched row is cast by `f` and stored. -/
def castStep (f : Vec F S1x1024x128 .f32 → FVec F S1x1024x128 .bf16)
    (b : Memref sig .tc .vmem S16x1024x128 .f32) (b' : Memref sig .tc .vmem S16x1024x128 .bf16) (hb' : b'.IsWhole)
    (h : Fin 16) : Pg F PUnit := do
  let x : Vec F S1x1024x128 .f32 ← Prog.lift (.load b (rRow h).toLoadRect (View.loadsAt_vmem h_S1x1024x128))
  let _ : Vec F S1x1024x128 .bf16 ← Prog.lift (.load b' (rRow h).toLoadRect (View.loadsAt_vmem h_S1x1024x128))
  Prog.lift (.store b' (rRow h) (f x) Finset.univ (View.stores_vmem h_S1x1024x128 (hb'.storeExact_slice rfl _ (packedRow h))
    (fun _ => rfl)) (.inl rfl))

/-- A cast row is sent to the device `p`. -/
def sendRow (p : Dev nD) (b b' : Memref sig .tc .vmem S16x1024x128 .bf16) (hb : b.IsWhole) (hb' : b'.IsWhole)
    (s r : DmaSems sig S16) (h : Fin 16) : Pg F PUnit :=
  Prog.lift (.enqueueDma (row3 b h) (.remote (Dev.tc p) (row3 b' h) (.dma (semAt s h))) (.dma (semAt r h))
    (rowWords hb h) (rowWords hb' h) ⟨⟨rfl, Or.inl rfl⟩, trivial⟩)

/-- A row's arrival, or its departure, is waited for. -/
def waitRow (b b' : Memref sig .tc .vmem S16x1024x128 .bf16) (hb : b.IsWhole) (hb' : b'.IsWhole) (s : DmaSems sig S16)
    (h : Fin 16) : Pg F PUnit :=
  Prog.lift (.waitDma2 (semAt s h) (row3 b h) (row3 b' h) (rowWords hb h) (rowWords hb' h))

/-- The two fetches of a head's keys and values are started. -/
def startKV (h : Fin 16) : Pg F PUnit := do
  fetch mK kst cc0_scratch10 h
  fetch mV vst cc0_scratch11 h

/-- A head's keys and values are cast and sent. -/
def stage (p : Dev nD) (h : Fin 16) : Pg F PUnit := do
  waitFetch mK kst cc0_scratch10 h
  castStep castRow kst kb (Memref.isWhole_whole _) h
  sendRow p kb ck (Memref.isWhole_whole _) (Memref.isWhole_whole _) cc0_scratch14 cc0_scratch16 h
  waitFetch mV vst cc0_scratch11 h
  castStep castRow vst vb (Memref.isWhole_whole _) h
  sendRow p vb cv (Memref.isWhole_whole _) (Memref.isWhole_whole _) cc0_scratch15 cc0_scratch17 h

/-- A head's queries are scaled and cast. -/
def stageQ (h : Fin 16) : Pg F PUnit := do
  waitFetch mQ qst cc0_scratch12 h
  castStep castQ qst qb (Memref.isWhole_whole _) h

/-- A trip of the loop over the device's own keys and values. -/
def trip (t : Fin k0_t1_loop.trips) : Pg F PUnit := do
  let q : Vec F S1x512x128 .bf16 ← Prog.lift (.load qb (Rect.unit (s := S16x1024x128) (k0_off1 t) S1x512x128.size (k0_off1_inb t)).toLoadRect
    (View.loadsAt_vmem h_S1x512x128))
  let k : Vec F S1x1024x128 .bf16 ← Prog.lift (.load kb (Rect.unit (s := S16x1024x128) (k0_off2 t) S1x1024x128.size (k0_off2_inb t)).toLoadRect
    (View.loadsAt_vmem h_S1x1024x128))
  let v : Vec F S1x1024x128 .bf16 ← Prog.lift (.load vb (Rect.unit (s := S16x1024x128) (k0_off2 t) S1x1024x128.size (k0_off2_inb t)).toLoadRect
    (View.loadsAt_vmem h_S1x1024x128))
  let _ : Vec F S1x512x128 .f32 ← Prog.lift (.load ov (Rect.unit (s := S16x1024x128) (k0_off1 t) S1x512x128.size (k0_off1_inb t)).toLoadRect
    (View.loadsAt_vmem h_S1x512x128))
  Prog.lift (.store ov (Rect.unit (s := S16x1024x128) (k0_off1 t) S1x512x128.size (k0_off1_inb t)) (ownOut q k v) Finset.univ
    (View.stores_vmem_bits_univ h_S1x512x128 rfl) (.inl rfl))
  let _ : Vec F S1x512 .f32 ← Prog.lift (.load ls (Rect.unit (s := S32x512) (k0_off3 t) S1x512.size (k0_off3_inb t)).toLoadRect
    (View.loadsAt_vmem h_S1x512))
  Prog.lift (.store ls (Rect.unit (s := S32x512) (k0_off3 t) S1x512.size (k0_off3_inb t)) (ownSum q k) Finset.univ
    (View.stores_vmem_bits_univ h_S1x512 rfl) (.inl rfl))

/-- Half a head's result: the other device's part added, then divided. -/
def joinStep (h : Fin 16) (r : Fin 2) : Pg F PUnit := do
  let q : Vec F S1x512x128 .bf16 ← Prog.lift (.load qb (rChunk h r).toLoadRect (View.loadsAt_vmem h_S1x512x128))
  let k : Vec F S1x1024x128 .bf16 ← Prog.lift (.load ck (rRow h).toLoadRect (View.loadsAt_vmem h_S1x1024x128))
  let v : Vec F S1x1024x128 .bf16 ← Prog.lift (.load cv (rRow h).toLoadRect (View.loadsAt_vmem h_S1x1024x128))
  let l : Vec F S1x512 .f32 ← Prog.lift (.load ls (rSum h r).toLoadRect (View.loadsAt_vmem h_S1x512))
  let o : Vec F S1x512x128 .f32 ← Prog.lift (.load ov (rChunk h r).toLoadRect (View.loadsAt_vmem h_S1x512x128))
  let _ : Vec F S1x512x128 .f32 ← Prog.lift (.load ov (rChunk h r).toLoadRect (View.loadsAt_vmem h_S1x512x128))
  Prog.lift (.store ov (rChunk h r) (joined q k v l o) Finset.univ (View.stores_vmem_bits_univ h_S1x512x128 rfl) (.inl rfl))

/-- A head's result row is sent out to the result. -/
def putOut (h : Fin 16) : Pg F PUnit :=
  Prog.lift (.enqueueDma (row2 ov h) (.here (col2 mO h)) (.dma (semAt cc0_scratch13 h)) ((View.wordExact_bits rfl).reshape _ _)
    ((View.wordExact_bits rfl).reshape _ _) ⟨Or.inl rfl, trivial⟩)

/-- The arrival of a head's keys is waited for. -/
def arriveK (h : Fin 16) : Pg F PUnit := waitRow kb ck (Memref.isWhole_whole _) (Memref.isWhole_whole _) cc0_scratch16 h

/-- The arrival of a head's values is waited for, its two halves joined, and its result row sent out. -/
def arriveV (h : Fin 16) : Pg F PUnit := do
  waitRow vb cv (Memref.isWhole_whole _) (Memref.isWhole_whole _) cc0_scratch17 h
  joinStep h 0
  joinStep h 1
  putOut h

/-- A head's arrivals are waited for, its two halves joined, and its result row sent out. -/
def finish (h : Fin 16) : Pg F PUnit := do
  arriveK h
  arriveV h

/-- A result row's transfer is waited for. -/
def waitOut (h : Fin 16) : Pg F PUnit :=
  Prog.lift (.waitDma2 (semAt cc0_scratch13 h) (row2 ov h) (col2 mO h) ((View.wordExact_bits rfl).reshape _ _)
    ((View.wordExact_bits rfl).reshape _ _))

/-- A head's two sends are waited for. -/
def waitSend (h : Fin 16) : Pg F PUnit := do
  waitRow ck kb (Memref.isWhole_whole _) (Memref.isWhole_whole _) cc0_scratch14 h
  waitRow cv vb (Memref.isWhole_whole _) (Memref.isWhole_whole _) cc0_scratch15 h

/-- The body. -/
def body : Pg F PUnit := do
  let d : Dev nD ← Prog.lift .deviceId
  semSignalWord (tgt d) (SemArray.scalar (sig.barrier 0 rfl) : Sems sig S_).sem 1#32
  semWaitWord (SemArray.scalar (sig.barrier 0 rfl) : Sems sig S_).sem 1#32
  runL startKV heads
  runL (stage (tgt d)) heads
  runL (fetch mQ qst cc0_scratch12) heads
  runL stageQ heads
  Scf.Loop.for k0_t1_loop k0_t1_ok ⟨⟩ (fun t _ => trip t)
  runL finish heads
  runL waitOut heads
  runL waitSend heads

/-! ## The printed body is the structured one

The printed body is cut in two where its printed parts are. -/

/-- The three words of the device's number the first part hands on. -/
def words (d : Dev nD) : Σ' (_ : BitVec 32) (_ : BitVec 32), BitVec 32 :=
  ⟨Scalar.remsi (Scalar.divsi (Dev.word d) 8#32) 2#32, Scalar.remsi (Scalar.divsi (Dev.word d) 1#32) 4#32,
    Scalar.subi 1#32 (Scalar.remsi (Scalar.divsi (Dev.word d) 4#32) 2#32)⟩

/-- The body up to the arrival of head 4's keys. -/
def body₁ : Pg F (Σ' (_ : BitVec 32) (_ : BitVec 32), BitVec 32) := do
  let d : Dev nD ← Prog.lift .deviceId
  semSignalWord (tgt d) (SemArray.scalar (sig.barrier 0 rfl) : Sems sig S_).sem 1#32
  semWaitWord (SemArray.scalar (sig.barrier 0 rfl) : Sems sig S_).sem 1#32
  runL startKV heads
  runL (stage (tgt d)) heads
  runL (fetch mQ qst cc0_scratch12) heads
  runL stageQ heads
  Scf.Loop.for k0_t1_loop k0_t1_ok ⟨⟩ (fun t _ => trip t)
  runL finish [0, 1, 2, 3]
  arriveK 4
  pure (words d)

/-- The body from there. -/
def body₂ : Pg F PUnit := do
  arriveV 4
  runL finish [5, 6, 7, 8, 9, 10, 11, 12, 13, 14, 15]
  runL waitOut heads
  runL waitSend heads

/-- A list's steps are its first part's and then its second part's. -/
theorem runL_append {E : Type → Type} {I : Type} (f : I → Prog E PUnit) (l l' : List I) :
    runL f (l ++ l') = (runL f l >>= fun _ => runL f l') := by
  induction l with
  | nil => rfl
  | cons i l ih => simp only [List.cons_append, runL, ih, bind_assoc]

theorem heads_cut : heads = [0, 1, 2, 3] ++ 4 :: [5, 6, 7, 8, 9, 10, 11, 12, 13, 14, 15] := rfl

/-- The structured body is its two parts. -/
theorem body_cut : (body₁ >>= fun _ => body₂ : Pg F PUnit) = body := by
  unfold body₁ body₂ body
  rw [show runL (finish (F := F)) heads = _ from by rw [heads_cut, runL_append, show ∀ l, runL (finish (F := F)) (4 :: l) = _ from fun l => by rw [runL, finish]]]
  simp only [bind_assoc, pure_bind, bind_pure]

/-- The printed part with the loop, cut around the loop. -/
theorem part51_cut (v2 v8 v9 : BitVec 32) (v : FVec F S1024x128 .bf16) : k0_part51 (F := F) (Memref.whole main_arg0) (Memref.isWhole_whole _) (Memref.whole main_arg1) (Memref.isWhole_whole _)
    (Memref.whole main_arg2) (Memref.isWhole_whole _) (Memref.whole main_v1) (Memref.isWhole_whole _) (Memref.whole cc0_scratch0)
    (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5)
    (Memref.isWhole_whole _) (Memref.whole cc0_scratch6) (Memref.isWhole_whole _) (Memref.whole cc0_scratch7) (Memref.isWhole_whole _)
    (Memref.whole cc0_scratch8) (Memref.isWhole_whole _) (Memref.whole cc0_scratch9) (Memref.isWhole_whole _) cc0_scratch10 cc0_scratch11
    cc0_scratch12 cc0_scratch13 cc0_scratch14 cc0_scratch15 cc0_scratch16 cc0_scratch17 v2 v8 v9 v
      = ((do
          let _ : Vec F S1x1024x128 .bf16 ← Prog.lift (.load qb (rRow 15).toLoadRect (View.loadsAt_vmem h_S1x1024x128))
          Prog.lift (.store qb (rRow 15) (k0_pay58 v) Finset.univ
            (View.stores_vmem h_S1x1024x128 ((Memref.isWhole_whole _).storeExact_slice rfl _ (packedRow 15)) (fun _ => rfl)) (.inl rfl)))
        >>= fun _ => (Scf.Loop.for k0_t1_loop k0_t1_ok ⟨⟩ (fun t _ => trip t) >>= fun _ => do
          arriveK 0
          waitRow vb cv (Memref.isWhole_whole _) (Memref.isWhole_whole _) cc0_scratch17 0)) := by
  chain_rfl

set_option maxRecDepth 65536 in
/-- The printed body's first part is the structured one, and returns three words of the device's number. -/
theorem part₁_eq : k0_part102 (F := F) (Memref.whole main_arg0) (Memref.isWhole_whole _) (Memref.whole main_arg1) (Memref.isWhole_whole _)
    (Memref.whole main_arg2) (Memref.isWhole_whole _) (Memref.whole main_v1) (Memref.isWhole_whole _) (Memref.whole cc0_scratch0)
    (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5)
    (Memref.isWhole_whole _) (Memref.whole cc0_scratch6) (Memref.isWhole_whole _) (Memref.whole cc0_scratch7) (Memref.isWhole_whole _)
    (Memref.whole cc0_scratch8) (Memref.isWhole_whole _) (Memref.whole cc0_scratch9) (Memref.isWhole_whole _) cc0_scratch10 cc0_scratch11
    cc0_scratch12 cc0_scratch13 cc0_scratch14 cc0_scratch15 cc0_scratch16 cc0_scratch17
      = body₁ := by
  rw [k0_part102_eq_skeleton]
  simp only [k0_part102_skel, part51_cut, bind_assoc]
  chain_rfl

/-- The printed body from its second part on, at the first part's three words. -/
abbrev printed₂ (v : Σ' (_ : BitVec 32) (_ : BitVec 32), BitVec 32) : Pg F PUnit := do
  k0_part103 (Memref.whole main_arg0) (Memref.isWhole_whole _) (Memref.whole main_arg1) (Memref.isWhole_whole _)
    (Memref.whole main_arg2) (Memref.isWhole_whole _) (Memref.whole main_v1) (Memref.isWhole_whole _) (Memref.whole cc0_scratch0)
    (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5)
    (Memref.isWhole_whole _) (Memref.whole cc0_scratch6) (Memref.isWhole_whole _) (Memref.whole cc0_scratch7) (Memref.isWhole_whole _)
    (Memref.whole cc0_scratch8) (Memref.isWhole_whole _) (Memref.whole cc0_scratch9) (Memref.isWhole_whole _) cc0_scratch10 cc0_scratch11
    cc0_scratch12 cc0_scratch13 cc0_scratch14 cc0_scratch15 cc0_scratch16 cc0_scratch17 v.1 v.2.1 v.2.2
  waitRow cv vb (Memref.isWhole_whole _) (Memref.isWhole_whole _) cc0_scratch15 14
  waitRow ck kb (Memref.isWhole_whole _) (Memref.isWhole_whole _) cc0_scratch14 15
  waitRow cv vb (Memref.isWhole_whole _) (Memref.isWhole_whole _) cc0_scratch15 15

set_option maxRecDepth 65536 in
/-- The printed body's second part is the structured one. -/
theorem part₂_eq (v : Σ' (_ : BitVec 32) (_ : BitVec 32), BitVec 32) : printed₂ (F := F) v = body₂ := by
  chain_rfl

/-- The printed body's two parts. -/
theorem printed_cut (t : Fin cfg0.N) : bodyAt0 (F := F) t = (k0_part102 (Memref.whole main_arg0) (Memref.isWhole_whole _) (Memref.whole main_arg1) (Memref.isWhole_whole _)
    (Memref.whole main_arg2) (Memref.isWhole_whole _) (Memref.whole main_v1) (Memref.isWhole_whole _) (Memref.whole cc0_scratch0)
    (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5)
    (Memref.isWhole_whole _) (Memref.whole cc0_scratch6) (Memref.isWhole_whole _) (Memref.whole cc0_scratch7) (Memref.isWhole_whole _)
    (Memref.whole cc0_scratch8) (Memref.isWhole_whole _) (Memref.whole cc0_scratch9) (Memref.isWhole_whole _) cc0_scratch10 cc0_scratch11
    cc0_scratch12 cc0_scratch13 cc0_scratch14 cc0_scratch15 cc0_scratch16 cc0_scratch17
      >>= fun v => printed₂ v) := by
  chain_rfl

/-- The printed body is the structured one. -/
theorem body_eq (t : Fin cfg0.N) : bodyAt0 (F := F) t = body := by
  rw [printed_cut, part₁_eq, ← body_cut]
  simp only [part₂_eq, bind_assoc, pure_bind]

end Cert.KernelIdeal.Att

end
-- ==== Proof.Steps.lean ====
/- The body's local steps, each as one rule over the memrefs it touches: a memref is held either at named values
   (`holds`) or at anything (`any`). The rules are stated once for every head and every buffer. -/
module

public import proofs.«01_k».proof.Proof.Struct
public import Idealize.ShloMosaic.Lib.Pipeline.Launch
public import Idealize.ShloMosaic.Lib.Pipeline.Kit
public import Idealize.ShloMosaic.Lib.Pipeline.BigSepL
public import Idealize.ShloMosaic.Lib.Transfers
public import Idealize.ShloMosaic.Lib.Pipeline.ValueKit
public import Idealize.ShloMosaic.Lib.Tactic

@[expose] public section

set_option maxRecDepth 16384

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F] [Named F]

/-! ## The resource algebra: the launch's part, the exchange's rounds, the local transfers' counters -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds: the left half of the right factor. -/
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

/-- Every element type has a value. -/
instance elt_nonempty : ∀ e, Nonempty (Elt F e) := fun e => by
  cases e <;> first | exact ⟨0⟩ | exact ⟨FloatOps.ofBits _ 0⟩

abbrev 𝒱₀ : Variants := Variants.none

/-- The weakest precondition of a program of device `c`. -/
abbrev runs (c : Dev nD) {α : Type} (p : Pg F α) (K : α → sProp 𝕄) : sProp 𝕄 :=
  wp frame (wpE (defs₀ (F := F)) 𝒱₀ (c : Thread nD τ) none) Set.univ p K

/-! ## A memref held -/

/-- The memref's elements at share `q`, reading `X`. -/
def holds (c : Dev nD) {sp : Space} {s : Shape} {e : EltTy} (b : Memref sig .tc sp s e) (q : PosShare TreeShare)
    (X : s.Idx → Elt F e) : sProp 𝕄 :=
  b.view.loc (c : Thread nD τ) ↦[b.view.set]{q} b.view.rep X

/-- The memref's elements, at anything. -/
def any (c : Dev nD) {sp : Space} {s : Shape} {e : EltTy} (b : Memref sig .tc sp s e) : sProp 𝕄 :=
  iprop(∃ f : Buf (Elt F) (b.view.loc (c : Thread nD τ)), b.view.loc (c : Thread nD τ) ↦[b.view.set]{fullShare} f)

section Held
variable (c : Dev nD) {sp : Space} {s : Shape} {e : EltTy} (b : Memref sig .tc sp s e)

instance holds_storable (q : PosShare TreeShare) (X : s.Idx → Elt F e) :
    BI.Storable (upEmb : UEmb _ 𝕄) (holds c b q X) := by unfold holds; infer_instance
instance any_storable : BI.Storable (upEmb : UEmb _ 𝕄) (any (F := F) c b) := by unfold any; infer_instance

/-- A points-to is `holds` at what it reads. -/
theorem holds_of (q : PosShare TreeShare) (f : Buf (Elt F) (b.view.loc (c : Thread nD τ))) {X : s.Idx → Elt F e}
    (h : b.view.read (Elt F) f = X) :
    (b.view.loc (c : Thread nD τ) ↦[b.view.set]{q} f : sProp 𝕄) = holds c b q X := by
  subst h; exact pointsTo_rep (c : Thread nD τ) b f q

theorem any_of_holds (X : s.Idx → Elt F e) : (holds c b fullShare X : sProp 𝕄) ⊢ any c b := by
  unfold holds any; iintro H; iexists _; iexact H

/-- A full share is two halves. -/
theorem holds_halves (X : s.Idx → Elt F e) :
    (holds c b fullShare X : sProp 𝕄) ⊣⊢ iprop(holds c b fullShare.left X ∗ holds c b fullShare.right X) :=
  pointsTo_share (PosShare.mem_left_op_right fullShare)

end Held

/-! ## A row and the same row without its unit axis; a column -/

/-- The unit axis put in front of a row. -/
def lift3 {α : Type} (w : S1024x128.Idx → α) : S1x1024x128.Idx → α :=
  fun i => w ((Shape.reshapeEquiv squeezes_S1x1024x128_S1024x128.numel_eq).symm i)

/-- The unit axis of a row dropped. -/
def drop3 {α : Type} (w : S1x1024x128.Idx → α) : S1024x128.Idx → α :=
  fun i => w (Shape.reshapeEquiv squeezes_S1x1024x128_S1024x128.numel_eq i)

theorem lift3_drop3 {α : Type} (w : S1x1024x128.Idx → α) : lift3 (drop3 w) = w := by
  funext i; unfold lift3 drop3; rw [Equiv.apply_symm_apply]
theorem drop3_lift3 {α : Type} (w : S1024x128.Idx → α) : drop3 (lift3 w) = w := by
  funext i; exact congrArg w (Equiv.symm_apply_apply _ i)

section Row
variable (c : Dev nD) {sp : Space} {e : EltTy} (b : Memref sig .tc sp S16x1024x128 e) (h : Fin 16)

theorem row2_set : (row2 b h).view.set = (row3 b h).view.set := View.set_reshape _ _

theorem row2_read (f : Buf (Elt F) ((row3 b h).view.loc (c : Thread nD τ))) :
    (row2 b h).view.read (Elt F) f = drop3 ((row3 b h).view.read (Elt F) f) := rfl

/-- The row held without its unit axis is the row held. -/
theorem holds_row2 (q : PosShare TreeShare) (X : S1x1024x128.Idx → Elt F e) :
    (holds c (row2 b h) q (drop3 X) : sProp 𝕄) = holds c (row3 b h) q X := by
  rw [← holds_of c (row2 b h) q ((row3 b h).view.rep X) (by rw [row2_read c, View.read_rep]), row2_set]
  exact holds_of c (row3 b h) q _ (View.read_rep _ _)

theorem any_row2 : (any c (row2 b h) : sProp 𝕄) = any (F := F) c (row3 b h) := by
  unfold any; rw [row2_set]

end Row

/-! ## Halves of a row -/

theorem inbHalf (r : Fin 2) : ∀ a, (![0, 512 * r.val, 0] : Fin 3 → Nat) a + S1x512x128.size a ≤ S1x1024x128.size a := by
  revert r; decide
/-- Half `r` of a row. -/
abbrev rHalf (r : Fin 2) : Rect S1x1024x128 := Rect.unit (s := S1x1024x128) ![0, 512 * r.val, 0] S1x512x128.size (inbHalf r)
/-- What half `r` of a row holds. -/
def half {α : Type} (r : Fin 2) (X : S1x1024x128.Idx → α) : S1x512x128.Idx → α := fun j => X ((rHalf r).emb j)

/-- Half `r` of row `h` of a buffer. -/
abbrev chk {sp : Space} {e : EltTy} (b : Memref sig .tc sp S16x1024x128 e) (h : Fin 16) (r : Fin 2) :
    Memref sig .tc sp S1x512x128 e := b.slice (rChunk h r) (fun _ => rfl)
/-- Row of sums `2 h + r`. -/
abbrev srow {sp : Space} {e : EltTy} (b : Memref sig .tc sp S32x512 e) (h : Fin 16) (r : Fin 2) :
    Memref sig .tc sp S1x512 e := b.slice (rSum h r) (fun _ => rfl)

theorem rChunk_emb (h : Fin 16) (r : Fin 2) (j : S1x512x128.Idx) : (rChunk h r).emb j = (rRow h).emb ((rHalf r).emb j) := by
  funext a
  apply Fin.ext
  refine (ValueKit.rect_emb_unit_val _ _ _ j a).trans (.trans ?_ (ValueKit.rect_emb_unit_val _ _ _ ((rHalf r).emb j) a).symm)
  have e : ((rHalf r).emb j a : Nat) = (![0, 512 * r.val, 0] : Fin 3 → Nat) a + (j a : Nat) :=
    ValueKit.rect_emb_unit_val (s := S1x1024x128) ![0, 512 * r.val, 0] S1x512x128.size (inbHalf r) j a
  rw [e]
  fin_cases a <;> simp

/-- The elements of a union of indices. -/
theorem setOn_union {sp : Space} {s : Shape} {e : EltTy} (v : View sig .tc sp s e) (A B : Finset s.Idx) :
    v.setOn (A ∪ B) = v.setOn A ∪ v.setOn B := Finset.map_union A B

theorem setOn_disjoint {sp : Space} {s : Shape} {e : EltTy} (v : View sig .tc sp s e) {A B : Finset s.Idx} (h : Disjoint A B) :
    Disjoint (v.setOn A) (v.setOn B) := (Finset.disjoint_map _).mpr h

section Halves
variable (c : Dev nD) {sp : Space} {e : EltTy} (b : Memref sig .tc sp S16x1024x128 e) (h : Fin 16)

theorem chk_read (r : Fin 2) (f : Buf (Elt F) ((row3 b h).view.loc (c : Thread nD τ))) :
    (chk b h r).view.read (Elt F) f = half r ((row3 b h).view.read (Elt F) f) := by
  funext j
  show b.view.read (Elt F) f ((rChunk h r).emb j) = b.view.read (Elt F) f ((rRow h).emb ((rHalf r).emb j))
  rw [rChunk_emb]

theorem rRow_set : (rRow h).set = (rChunk h 0).set ∪ (rChunk h 1).set := by
  ext i
  rw [Finset.mem_union, Rect.mem_set_unit, Rect.mem_set_unit, Rect.mem_set_unit]
  simp only [Fin.forall_fin_succ, Fin.isValue]
  simp
  omega

theorem rChunk_disjoint : Disjoint (rChunk h 0).set (rChunk h 1).set := by
  rw [Finset.disjoint_left]
  intro i
  rw [Rect.mem_set_unit, Rect.mem_set_unit]
  intro h0 h1
  have a := (h0 1).2; have b := (h1 1).1
  simp at a b
  omega

theorem row3_set : (row3 b h).view.set = (chk b h 0).view.set ∪ (chk b h 1).view.set := by
  show (b.view.slice (rRow h)).set = (b.view.slice (rChunk h 0)).set ∪ (b.view.slice (rChunk h 1)).set
  rw [View.set_slice, View.set_slice, View.set_slice, rRow_set]
  exact setOn_union _ _ _

theorem chk_disjoint : Disjoint (chk b h 0).view.set (chk b h 1).view.set := by
  show Disjoint (b.view.slice (rChunk h 0)).set (b.view.slice (rChunk h 1)).set
  rw [View.set_slice, View.set_slice]
  exact setOn_disjoint _ (rChunk_disjoint h)

/-- A row held is its two halves held. -/
theorem holds_chk (q : PosShare TreeShare) (X : S1x1024x128.Idx → Elt F e) :
    (holds c (row3 b h) q X : sProp 𝕄) ⊣⊢ iprop(holds c (chk b h 0) q (half 0 X) ∗ holds c (chk b h 1) q (half 1 X)) := by
  rw [← holds_of c (chk b h 0) q ((row3 b h).view.rep X) (by rw [chk_read c, View.read_rep]),
    ← holds_of c (chk b h 1) q ((row3 b h).view.rep X) (by rw [chk_read c, View.read_rep])]
  unfold holds
  rw [row3_set]
  exact pointsTo_union (chk_disjoint b h)

theorem any_chk : (any c (row3 b h) : sProp 𝕄) ⊢ iprop(any (F := F) c (chk b h 0) ∗ any c (chk b h 1)) := by
  iintro H
  unfold any
  icases H with ⟨%f, H⟩
  rw [row3_set]
  ihave H' := (pointsTo_union (chk_disjoint b h)).1 $$ H
  icases H' with ⟨H0, H1⟩
  isplitl [H0]
  · iexists f; iexact H0
  · iexists f; iexact H1

end Halves

/-! ## Loads and stores -/

section Access
variable (c : Dev nD) {sp : CoreSpace} {s : Shape} {e : EltTy} (b : Memref sig .tc sp s e)
variable {α : Type}

/-- A load of a slice that is held. -/
theorem wp_loadSlice (r : Rect s) (hr : ∀ a, r.stride a = 1) (q : PosShare TreeShare) (X : r.shape.Idx → Elt F e)
    {hl : b.view.LoadsAt r.toLoadRect} {k : (r.shape.Idx → Elt F e) → Pg F α} {K : α → sProp 𝕄} :
    iprop(holds c (b.slice r hr) q X ∗ (holds c (b.slice r hr) q X -∗ runs c (k X) K))
      ⊢ runs c (.op (.load b r.toLoadRect hl) k) K := by
  unfold holds
  iintro ⟨H, Hk⟩
  iapply (wp_load_rect 𝒱₀ (c : Thread nD τ) none Set.univ (m := b) (r := r) (Finset.Subset.refl _)) $$ H
  iintro H
  rw [show (b.access r).read (Elt F) ((b.slice r hr).view.rep X) = X from View.read_rep (b.slice r hr).view X]
  iapply Hk; iexact H

/-- A load of a slice held at anything, its value not read. -/
theorem wp_loadAny (r : Rect s) (hr : ∀ a, r.stride a = 1)
    {hl : b.view.LoadsAt r.toLoadRect} {k : (r.shape.Idx → Elt F e) → Pg F α} {p : Pg F α} (hk : ∀ x, k x = p)
    {K : α → sProp 𝕄} :
    iprop(any c (b.slice r hr) ∗ (any c (b.slice r hr) -∗ runs c p K))
      ⊢ runs c (.op (.load b r.toLoadRect hl) k) K := by
  unfold any
  iintro ⟨⟨%f, H⟩, Hk⟩
  iapply (wp_load_rect 𝒱₀ (c : Thread nD τ) none Set.univ (m := b) (r := r) (Finset.Subset.refl _)) $$ H
  iintro H
  rw [hk]
  iapply Hk; iexists f; iexact H

/-- A store over a slice. -/
theorem wp_storeSlice (r : Rect s) (hr : ∀ a, r.stride a = 1) (w : r.shape.Idx → Elt F e)
    {hx : (b.access r).Stores Finset.univ} {hm : (Finset.univ : Finset r.shape.Idx) = Finset.univ ∨ ∀ a, r.stride a = 1}
    {k : PUnit → Pg F α} {K : α → sProp 𝕄} :
    iprop(any c (b.slice r hr) ∗ (holds c (b.slice r hr) fullShare w -∗ runs c (k ⟨⟩) K))
      ⊢ runs c (.op (.store b r w Finset.univ hx hm) k) K := by
  unfold any
  iintro ⟨⟨%f, H⟩, Hk⟩
  iapply (wp_store 𝒱₀ (c : Thread nD τ) none Set.univ (m := b) (r := r) (Mk := Finset.univ)
    (S := (b.slice r hr).view.set) (Finset.Subset.refl _)) $$ H
  iintro H
  ihave H' := (Entails.of_eq (holds_of c (b.slice r hr) fullShare ((b.access r).write (Elt F) f w Finset.univ) (X := w)
    (View.read_write_univ _ _))) $$ H
  iapply Hk; iexact H'

end Access

/-! ## Local transfers -/

section Copy
variable (c : Dev nD) {sp sp' : Space} {s : Shape} {e : EltTy} (src : Memref sig .tc sp s e) (dst : Memref sig .tc sp' s e) (sm : DmaSem sig)

/-- A local transfer under way: at its wait the destination holds what the source did, and the source comes back. -/
def under (q : PosShare TreeShare) (w : s.Idx → Elt F e) : sProp 𝕄 :=
  Flight EC (c : Thread nD τ) (.dma sm) () dst.view.dmaCredit iprop(holds c dst fullShare w ∗ holds c src q w)

/-- A local transfer is issued. -/
theorem wp_copy (hs : 0 < s.numel) (q : PosShare TreeShare) (w : s.Idx → Elt F e) {hsrc : src.view.WordExact} {hdst : dst.view.WordExact}
    {hsem : DmaTarget.Typed (nD := nD) (τ := τ) (p := .tc) sp (.dma sm) (.here dst)} {k : PUnit → Pg F PUnit} {K : PUnit → sProp 𝕄} :
    iprop(holds c src q w ∗ any c dst ∗ semVal ((c : Thread nD τ), .dma sm) 0 ∗ (under c src dst sm q w -∗ runs c (k ⟨⟩) K))
      ⊢ runs c (.op (.enqueueDma src (.here dst) (.dma sm) hsrc hdst hsem) k) K := by
  unfold any
  iintro ⟨Hs, ⟨%f, Hd⟩, Hv, Hk⟩
  unfold holds
  iapply (wp_dmaLocal EC 𝒱₀ (c : Thread nD τ) none () dst.view.dmaCredit rfl (View.dmaCredit_pos _ hs) (Finset.Subset.refl _)) $$ [Hs Hd Hv]
  · isplitl [Hs]; · iexact Hs
    isplitl [Hd]; · iexact Hd
    iexact Hv
  iintro HF
  iapply Hk
  unfold under
  have e : (View.loc (c : Thread nD τ) dst.view ↦[dst.view.set]{fullShare}
      View.write (Elt F) dst.view f (ReadAs.same.apply (View.read (Elt F) src.view (src.view.rep w))) Finset.univ : sProp 𝕄)
        = holds c dst fullShare w := holds_of c dst fullShare _ (by rw [View.read_write_univ]; exact View.read_rep _ _)
  rw [e]
  iexact HF

/-- A local transfer is waited for. -/
theorem wp_copied (q : PosShare TreeShare) (w : s.Idx → Elt F e) {hsrc : src.view.WordExact} {hdst : dst.view.WordExact}
    {k : PUnit → Pg F PUnit} {K : PUnit → sProp 𝕄} (O : CellTallies nD τ sig Unit) :
    iprop(under c src dst sm q w ∗ (∃ W, owes (c : Thread nD τ) O W) ∗ MayWait (c : Thread nD τ) (.dma sm) () O
        ∗ ((holds c dst fullShare w ∗ holds c src q w ∗ semVal ((c : Thread nD τ), .dma sm) 0 ∗ ∃ W, owes (c : Thread nD τ) O W) -∗ runs c (k ⟨⟩) K))
      ⊢ runs c (.op (.waitDma2 sm src dst hsrc hdst) k) K := by
  unfold under
  iintro ⟨HF, ⟨%W, HO⟩, HM, Hk⟩
  iapply (wp_waitLocalO EC 𝒱₀ (c : Thread nD τ) none () rfl) $$ [HF HO HM]
  · isplitl [HF]; · iexact HF
    isplitl [HO]; · iexact HO
    iexact HM
  iintro ⟨⟨Hd, Hs⟩, Hv, HO⟩
  iapply Hk
  isplitl [Hd]; · iexact Hd
  isplitl [Hs]; · iexact Hs
  isplitl [Hv]; · iexact Hv
  iexists _; iexact HO

end Copy

/-! ## A step run for every head -/

/-- If each step turns its own `T` into `D`, passing `I` along the list, the whole list turns all the `T` into all the `D`. -/
theorem wp_runL (c : Dev nD) {J : Type} (f : J → Pg F PUnit) (T D : J → sProp 𝕄) (I : List J → sProp 𝕄)
    (h : ∀ j l (K : PUnit → sProp 𝕄), iprop(T j ∗ I (j :: l) ∗ ((D j ∗ I l) -∗ K ⟨⟩)) ⊢ runs c (f j) K) (l : List J) :
    ∀ K : PUnit → sProp 𝕄, iprop(bigSepL l T ∗ I l ∗ ((bigSepL l D ∗ I []) -∗ K ⟨⟩)) ⊢ runs c (runL f l) K := by
  induction l with
  | nil =>
    intro K
    iintro ⟨-, HI, Hk⟩
    rw [runL, runs, wp_ret]; imodintro
    iapply Hk
    isplitr; · iempintro
    iexact HI
  | cons j l ih =>
    intro K
    rw [show runs c (runL f (j :: l)) K = runs c (f j) (fun _ => runs c (runL f l) K) from wp_bind .., bigSepL_cons', bigSepL_cons']
    iintro ⟨⟨HT, HTl⟩, HI, Hk⟩
    iapply (h j l _)
    isplitl [HT]; · iexact HT
    isplitl [HI]; · iexact HI
    iintro ⟨HD, HI⟩
    iapply (ih K)
    isplitl [HTl]; · iexact HTl
    isplitl [HI]; · iexact HI
    iintro ⟨HDl, HI⟩
    iapply Hk
    isplitl [HD HDl]
    · isplitl [HD]; · iexact HD
      iexact HDl
    iexact HI

/-- The same over the sixteen heads, before the rest of the program. -/
theorem wp_heads (c : Dev nD) (f : Fin 16 → Pg F PUnit) (T D : Fin 16 → sProp 𝕄) (I : List (Fin 16) → sProp 𝕄)
    (h : ∀ j l (K : PUnit → sProp 𝕄), iprop(T j ∗ I (j :: l) ∗ ((D j ∗ I l) -∗ K ⟨⟩)) ⊢ runs c (f j) K)
    (k : PUnit → Pg F PUnit) (K : PUnit → sProp 𝕄) :
    iprop(bigSep Finset.univ T ∗ I heads) ⊢ iprop(((bigSep Finset.univ D ∗ I []) -∗ runs c (k ⟨⟩) K) -∗ runs c (runL f heads >>= k) K) := by
  rw [bigSep_univ_eq_bigSepL heads (by decide) (by decide), bigSep_univ_eq_bigSepL heads (by decide) (by decide)]
  iintro ⟨HT, HI⟩ Hk
  rw [show runs c (runL f heads >>= k) K = runs c (runL f heads) (fun a => runs c (k a) K) from wp_bind ..]
  iapply (wp_runL c f T D I h heads _)
  isplitl [HT]; · iexact HT
  isplitl [HI]; · iexact HI
  iexact Hk

/-- The same as the program's end. -/
theorem wp_heads_last (c : Dev nD) (f : Fin 16 → Pg F PUnit) (T D : Fin 16 → sProp 𝕄) (I : List (Fin 16) → sProp 𝕄)
    (h : ∀ j l (K : PUnit → sProp 𝕄), iprop(T j ∗ I (j :: l) ∗ ((D j ∗ I l) -∗ K ⟨⟩)) ⊢ runs c (f j) K)
    (K : PUnit → sProp 𝕄) :
    iprop(bigSep Finset.univ T ∗ I heads) ⊢ iprop(((bigSep Finset.univ D ∗ I []) -∗ K ⟨⟩) -∗ runs c (runL f heads) K) := by
  rw [bigSep_univ_eq_bigSepL heads (by decide) (by decide), bigSep_univ_eq_bigSepL heads (by decide) (by decide)]
  iintro ⟨HT, HI⟩ Hk
  iapply (wp_runL c f T D I h heads _)
  isplitl [HT]; · iexact HT
  isplitl [HI]; · iexact HI
  iexact Hk

end Cert.KernelIdeal.Att

end
-- ==== Proof.Protocol.lean ====
/- The exchange between the two devices of a pair: who pays which semaphore, with what, and in which order the
   semaphores may be waited for. -/
module

public import proofs.«01_k».proof.Proof.Steps

@[expose] public section

set_option maxRecDepth 16384

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F] [Named F]

local notation "𝕄" => MT nD τ sig Unit (Elt F) ℕ UU ℕ

/-! ## Pairs of devices -/

theorem tgt_val (d : Dev nD) : (tgt d).val = (8 * (d.val / 8) + d.val % 4 + 4) - 4 * (d.val / 4 % 2) := k0_dev1_eq d

theorem tgt_tgt (d : Dev nD) : tgt (tgt d) = d := by
  apply Fin.ext
  rw [tgt_val, tgt_val]
  have : d.val < 16 := d.isLt
  omega

/-- The two devices of each pair change places. -/
def swap : Dev nD ≃ Dev nD := ⟨tgt, tgt, tgt_tgt, tgt_tgt⟩

/-! ## Cells -/

abbrev barS : Sem sig := (SemArray.scalar (sig.barrier 0 rfl) : Sems sig S_).sem

/-- The four arrays of semaphores of the exchange: keys sent, values sent, keys arrived, values arrived. -/
def xarr : Fin 4 → DmaSems sig S16 := fun | 0 => cc0_scratch14 | 1 => cc0_scratch15 | 2 => cc0_scratch16 | 3 => cc0_scratch17
/-- The four arrays of semaphores of the local transfers: keys, values and queries fetched, results put out. -/
def larr : Fin 4 → DmaSems sig S16 := fun | 0 => cc0_scratch10 | 1 => cc0_scratch11 | 2 => cc0_scratch12 | 3 => cc0_scratch13

/-- The exchange's semaphores: the barrier's, and array `j`'s `h`-th. -/
def csem : Option (Fin 4 × Fin 16) → SemLoc sig
  | none => .reg barS
  | some (j, h) => .dma (semAt (xarr j) h)
/-- The local transfers' semaphores. -/
def lsem (p : Fin 4 × Fin 16) : SemLoc sig := .dma (semAt (larr p.1) p.2)

theorem csem_injective : Function.Injective csem := by
  have h : ∀ i j, csem i = csem j → i = j := by decide +kernel
  exact fun i j => h i j
theorem lsem_injective : Function.Injective lsem := by
  have h : ∀ i j, lsem i = lsem j → i = j := by decide +kernel
  exact fun i j => h i j
theorem lsem_ne_csem : ∀ p i, lsem p ≠ csem i := by decide +kernel

abbrev kcell (c : Dev nD) (i : Option (Fin 4 × Fin 16)) : GSem nD τ sig := ((c : Thread nD τ), csem i)
abbrev barCell (c : Dev nD) : GSem nD τ sig := kcell c none
/-- Device `c`'s semaphore `h` of array `j`. -/
abbrev xcell (c : Dev nD) (j : Fin 4) (h : Fin 16) : GSem nD τ sig := kcell c (some (j, h))

theorem kcell_inj {c c' : Dev nD} {i i' : Option (Fin 4 × Fin 16)} (h : kcell c i = kcell c' i') : c = c' ∧ i = i' :=
  ⟨congrArg (fun g : GSem nD τ sig => g.1.1) h, csem_injective (congrArg Prod.snd h)⟩

/-- What a row's transfer counts. -/
def N : ℕ := (row3 ck 0).view.dmaCredit
theorem N_pos : 0 < N := View.dmaCredit_pos _ (by decide)
theorem N_ck (h : Fin 16) : (row3 ck h).view.dmaCredit = N := rfl
theorem N_cv (h : Fin 16) : (row3 cv h).view.dmaCredit = N := rfl
theorem N_kb (h : Fin 16) : (row3 kb h).view.dmaCredit = N := rfl
theorem N_vb (h : Fin 16) : (row3 vb h).view.dmaCredit = N := rfl

/-! ## Contents -/

variable (m : (ℓ : Loc nD τ sig) → Buf (Elt F) ℓ)

/-- Head `h` of device `c`'s queries, keys and values as launched. -/
def qCol (c : Dev nD) (h : Fin 16) : S1024x128.Idx → Elt F .f32 := (col2 mQ h).view.read (Elt F) (m ((c : Thread nD τ).loc main_arg0))
def kCol (c : Dev nD) (h : Fin 16) : S1024x128.Idx → Elt F .f32 := (col2 mK h).view.read (Elt F) (m ((c : Thread nD τ).loc main_arg1))
def vCol (c : Dev nD) (h : Fin 16) : S1024x128.Idx → Elt F .f32 := (col2 mV h).view.read (Elt F) (m ((c : Thread nD τ).loc main_arg2))
/-- The cast rows. -/
def qRow (c : Dev nD) (h : Fin 16) : Vec F S1x1024x128 .bf16 := castQ (lift3 (qCol m c h))
def kRow (c : Dev nD) (h : Fin 16) : Vec F S1x1024x128 .bf16 := castRow (lift3 (kCol m c h))
def vRow (c : Dev nD) (h : Fin 16) : Vec F S1x1024x128 .bf16 := castRow (lift3 (vCol m c h))
/-- The device's own part of half `r` of head `h`: weighted values, and sums. -/
def ownO (c : Dev nD) (h : Fin 16) (r : Fin 2) : Vec F S1x512x128 .f32 := ownOut (half r (qRow m c h)) (kRow m c h) (vRow m c h)
def ownL (c : Dev nD) (h : Fin 16) (r : Fin 2) : Vec F S1x512 .f32 := ownSum (half r (qRow m c h)) (kRow m c h)
/-- Half `r` of head `h` of the result. -/
def outHalf (c : Dev nD) (h : Fin 16) (r : Fin 2) : Vec F S1x512x128 .f32 :=
  joined (half r (qRow m c h)) (kRow m (tgt c) h) (vRow m (tgt c) h) (ownL m c h r) (ownO m c h r)

/-! ## The schedule -/

/-- What the pair's other device hands over with its signal: its two landing buffers. -/
def barPay (c : Dev nD) : sProp 𝕄 :=
  bigSep Finset.univ fun h : Fin 16 => iprop(any (F := F) (tgt c) (row3 ck h) ∗ any (tgt c) (row3 cv h))

/-- What each semaphore's payment carries. -/
def pay (c : Dev nD) : Option (Fin 4 × Fin 16) → sProp 𝕄
  | none => barPay c
  | some (0, h) => holds c (row3 kb h) fullShare.right (kRow m c h)
  | some (1, h) => holds c (row3 vb h) fullShare.right (vRow m c h)
  | some (2, h) => holds c (row3 ck h) fullShare (kRow m (tgt c) h)
  | some (3, h) => holds c (row3 cv h) fullShare (vRow m (tgt c) h)

instance pay_storable (c : Dev nD) (i : Option (Fin 4 × Fin 16)) : BI.Storable (upEmb : UEmb _ 𝕄) (pay m c i) := by
  rcases i with _ | ⟨j, h⟩
  · show BI.Storable upEmb (barPay c); unfold barPay; infer_instance
  · fin_cases j
    · show BI.Storable upEmb (holds c (row3 kb h) fullShare.right (kRow m c h)); infer_instance
    · show BI.Storable upEmb (holds c (row3 vb h) fullShare.right (vRow m c h)); infer_instance
    · show BI.Storable upEmb (holds c (row3 ck h) fullShare (kRow m (tgt c) h)); infer_instance
    · show BI.Storable upEmb (holds c (row3 cv h) fullShare (vRow m (tgt c) h)); infer_instance

open Classical in
/-- One round: each semaphore of the exchange is paid once, the barrier's by one unit, the others by a row. -/
def Rd : Rounds.Schedule (GSem nD τ sig) Unit 𝕄 where
  duties g r := if r = 0 ∧ g.1.2 = .tc ∧ ∃ i, csem i = g.2 then {()} else ∅
  unitless _ := False
  amount g _ _ := if g.2 = csem none then 1 else N
  payload g _ _ := if h : ∃ i, csem i = g.2 then pay m g.1.1 h.choose else iprop(emp)
  amount_pos g _ _ _ := by
    by_cases h : g.2 = csem none
    · rw [if_pos h]; exact Nat.one_pos
    · rw [if_neg h]; exact N_pos

instance Rd_storable (g : GSem nD τ sig) (r : ℕ) (d : Unit) : BI.Storable (upEmb : UEmb _ 𝕄) ((Rd (F := F) m).payload g r d) := by
  dsimp only [Rd]; split <;> infer_instance

section Sched
variable (c : Dev nD) (i : Option (Fin 4 × Fin 16))

theorem duties_cell : (Rd (F := F) m).duties (kcell c i) 0 = {()} := by
  dsimp only [Rd]; exact if_pos ⟨rfl, rfl, i, rfl⟩
theorem mem_duties : () ∈ (Rd (F := F) m).duties (kcell c i) 0 := by rw [duties_cell]; exact Finset.mem_singleton_self _
theorem duties_later (g : GSem nD τ sig) : ∀ r, 1 ≤ r → (Rd (F := F) m).duties g r = ∅ :=
  fun r hr => by dsimp only [Rd]; rw [if_neg fun h => by omega]
theorem amount_bar (d : Unit) : (Rd (F := F) m).amount (barCell c) 0 d = 1 := by dsimp only [Rd]; exact if_pos rfl
theorem amount_x (p : Fin 4 × Fin 16) (d : Unit) : (Rd (F := F) m).amount (kcell c (some p)) 0 d = N := by
  dsimp only [Rd]; exact if_neg fun h => by cases csem_injective h
theorem expect_bar : (Rd (F := F) m).expect (barCell c) 0 = 1 := by
  unfold Schedule.expect Schedule.amountOf; rw [duties_cell, Finset.sum_singleton, amount_bar]
theorem expect_x (p : Fin 4 × Fin 16) : (Rd (F := F) m).expect (kcell c (some p)) 0 = N := by
  unfold Schedule.expect Schedule.amountOf; rw [duties_cell, Finset.sum_singleton, amount_x]
theorem payload_cell (d : Unit) : (Rd (F := F) m).payload (kcell c i) 0 d = pay m c i := by
  dsimp only [Rd]
  have h : ∃ j, csem j = csem i := ⟨i, rfl⟩
  rw [dif_pos h, csem_injective h.choose_spec]
theorem rest_cell : bigSep ((Rd (F := F) m).duties (kcell c i) 0 \ ∅) (fun d => (Rd (F := F) m).payload (kcell c i) 0 d) = pay m c i := by
  rw [Finset.sdiff_empty, duties_cell, bigSep_singleton, payload_cell]

end Sched

/-! ## What is owed; the levels -/

/-- What device `c` owes before the rows of the heads of a list are sent. -/
def owedL (c : Dev nD) : List (Fin 16) → CellTallies nD τ sig Unit
  | [] => 0
  | h :: l => owedL c l + tallyAt (xcell (tgt c) 3 h) () N + tallyAt (xcell (tgt c) 2 h) () N
/-- What device `c` owes at launch: the other device's barrier a unit, and its rows. -/
def O₀ (c : Dev nD) : CellTallies nD τ sig Unit := owedL c heads + tallyAt (barCell (tgt c)) () 1

def L (g : GSem nD τ sig) : Finset Unit := if g.1.2 = .tc then {()} else ∅
open Classical in
/-- Arrivals are above the barrier, and the barrier above all else. -/
def lv (g : GSem nD τ sig) (_ : Unit) : ℕ :=
  if g.2 = csem none then 1 else if ∃ h, g.2 = csem (some (2, h)) ∨ g.2 = csem (some (3, h)) then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_recv (c : Dev nD) (j : Fin 4) (hj : j = 2 ∨ j = 3) (h : Fin 16) (u : Unit) : lv (xcell c j h) u = 2 := by
  unfold lv
  rw [if_neg fun e => by cases csem_injective (a₁ := some (j, h)) (a₂ := none) e]
  exact if_pos ⟨h, by rcases hj with rfl | rfl; exacts [.inl rfl, .inr rfl]⟩
theorem lv_local (c : Dev nD) (p : Fin 4 × Fin 16) (u : Unit) : lv ((c : Thread nD τ), lsem p) u = 0 := by
  unfold lv
  rw [if_neg (lsem_ne_csem p none)]
  exact if_neg fun ⟨h, e⟩ => e.elim (lsem_ne_csem p _) (lsem_ne_csem p _)

/-- Arrivals only are owed. -/
def Arrivals (O : CellTallies nD τ sig Unit) : Prop := ∀ g u, 0 < O g u → ∃ c j h, (j = 2 ∨ j = 3) ∧ g = xcell c j h

theorem Arrivals.zero : Arrivals 0 := fun g u h => absurd h (Nat.lt_irrefl 0)
theorem Arrivals.add {O : CellTallies nD τ sig Unit} (hO : Arrivals O) (c : Dev nD) (j : Fin 4) (hj : j = 2 ∨ j = 3) (h : Fin 16) (n : ℕ) :
    Arrivals (O + tallyAt (xcell c j h) () n) := fun g u hg => by
  rw [Pi.add_apply, Finsupp.add_apply, tallyAt_apply] at hg
  by_cases e : g = xcell c j h ∧ u = ()
  · exact ⟨c, j, h, hj, e.1⟩
  · rw [if_neg e, Nat.add_zero] at hg; exact hO g u hg
theorem arrivals_owedL (c : Dev nD) (l : List (Fin 16)) : Arrivals (owedL c l) := by
  induction l with
  | nil => exact Arrivals.zero
  | cons h l ih => exact (ih.add _ _ (.inr rfl) _ _).add _ _ (.inl rfl) _ _

/-- A semaphore below the arrivals may be waited for while arrivals are owed. -/
theorem mayWait_low (c : Dev nD) (sm : SemLoc sig) (hs : lv ((c : Thread nD τ), sm) () ≤ 1) {O : CellTallies nD τ sig Unit} (hO : Arrivals O) :
    (levAts L lv : sProp 𝕄) ⊢ MayWait (c : Thread nD τ) sm () O :=
  MayOwe.of_cut (L := L) (lev := lv) 1 (fun p hp => by rw [Finset.mem_singleton.mp hp, L_tc]; exact Finset.mem_singleton_self _)
    (fun g u hg => by obtain ⟨c', j, h, hj, rfl⟩ := hO g u hg; rw [L_tc]; exact Finset.mem_singleton_self _)
    (fun p hp => by rw [Finset.mem_singleton.mp hp]; exact hs)
    (fun g u hg => by obtain ⟨c', j, h, hj, rfl⟩ := hO g u hg; rw [lv_recv c' j hj h u]; decide)

/-! ## The records every device reads -/

/-- Every cell's invariant under the names `K`, that every cell is at its round, and the levels. -/
def facts (K : Dev nD × Option (Fin 4 × Fin 16) → ℕ) : sProp 𝕄 :=
  iprop((bigSep Finset.univ fun p : Dev nD × Option (Fin 4 × Fin 16) => cellInv ER (Rd m) (K p) (kcell p.1 p.2))
    ∗ (bigSep Finset.univ fun p : Dev nD × Option (Fin 4 × Fin 16) => reached ER (kcell p.1 p.2) 0)
    ∗ levAts L lv)

instance facts_persistent (K : Dev nD × Option (Fin 4 × Fin 16) → ℕ) : BI.Persistent (facts m K) := by unfold facts; infer_instance

theorem facts_inv (K : Dev nD × Option (Fin 4 × Fin 16) → ℕ) (c : Dev nD) (i : Option (Fin 4 × Fin 16)) :
    facts m K ⊢ cellInv ER (Rd m) (K (c, i)) (kcell c i) := by
  unfold facts
  iintro ⟨H, -, -⟩
  iapply (show (bigSep Finset.univ fun p : Dev nD × Option (Fin 4 × Fin 16) => (cellInv ER (Rd m) (K p) (kcell p.1 p.2) : sProp 𝕄))
    ⊢ cellInv ER (Rd m) (K (c, i)) (kcell c i) from bigSep_elim (Finset.mem_univ (c, i)))
  iexact H
theorem facts_reached (K : Dev nD × Option (Fin 4 × Fin 16) → ℕ) (c : Dev nD) (i : Option (Fin 4 × Fin 16)) :
    facts m K ⊢ reached ER (kcell c i) 0 := by
  unfold facts
  iintro ⟨-, H, -⟩
  iapply (show (bigSep Finset.univ fun p : Dev nD × Option (Fin 4 × Fin 16) => (reached ER (kcell p.1 p.2) 0 : sProp 𝕄))
    ⊢ reached ER (kcell c i) 0 from bigSep_elim (Finset.mem_univ (c, i)))
  iexact H
theorem facts_lev (K : Dev nD × Option (Fin 4 × Fin 16) → ℕ) : facts m K ⊢ levAts L lv := by
  unfold facts; iintro ⟨-, -, H⟩; iexact H

end Cert.KernelIdeal.Att

end
-- ==== Proof.Loop.lean ====
/- The loop over the device's own keys and values as a list of steps over the sixteen heads, two halves each. -/
module

public import proofs.«01_k».proof.Proof.Struct

@[expose] public section

set_option maxRecDepth 16384

noncomputable section

namespace Cert.KernelIdeal.Att

open Idealize.ShloMosaic Idealize.ShloMosaic.TcCoe Idealize.SL.Sem
open Cert.KernelIdeal Cert.KernelIdeal.Gen

variable {F : FTy → Type} [FloatOps F] [Named F]

/-- A trip at given offsets. -/
def tripO (o₁ : Fin 3 → Nat) (i₁ : ∀ a, o₁ a + S1x512x128.size a ≤ S16x1024x128.size a)
    (o₂ : Fin 3 → Nat) (i₂ : ∀ a, o₂ a + S1x1024x128.size a ≤ S16x1024x128.size a)
    (o₃ : Fin 2 → Nat) (i₃ : ∀ a, o₃ a + S1x512.size a ≤ S32x512.size a) : Pg F PUnit := do
  let q : Vec F S1x512x128 .bf16 ← Prog.lift (.load qb (Rect.unit (s := S16x1024x128) o₁ S1x512x128.size i₁).toLoadRect
    (View.loadsAt_vmem h_S1x512x128))
  let k : Vec F S1x1024x128 .bf16 ← Prog.lift (.load kb (Rect.unit (s := S16x1024x128) o₂ S1x1024x128.size i₂).toLoadRect
    (View.loadsAt_vmem h_S1x1024x128))
  let v : Vec F S1x1024x128 .bf16 ← Prog.lift (.load vb (Rect.unit (s := S16x1024x128) o₂ S1x1024x128.size i₂).toLoadRect
    (View.loadsAt_vmem h_S1x1024x128))
  let _ : Vec F S1x512x128 .f32 ← Prog.lift (.load ov (Rect.unit (s := S16x1024x128) o₁ S1x512x128.size i₁).toLoadRect
    (View.loadsAt_vmem h_S1x512x128))
  Prog.lift (.store ov (Rect.unit (s := S16x1024x128) o₁ S1x512x128.size i₁) (ownOut q k v) Finset.univ
    (View.stores_vmem_bits_univ h_S1x512x128 rfl) (.inl rfl))
  let _ : Vec F S1x512 .f32 ← Prog.lift (.load ls (Rect.unit (s := S32x512) o₃ S1x512.size i₃).toLoadRect
    (View.loadsAt_vmem h_S1x512))
  Prog.lift (.store ls (Rect.unit (s := S32x512) o₃ S1x512.size i₃) (ownSum q k) Finset.univ
    (View.stores_vmem_bits_univ h_S1x512 rfl) (.inl rfl))

/-- The trip of half `r` of head `h`. -/
def tripAt (h : Fin 16) (r : Fin 2) : Pg F PUnit :=
  tripO ![h.val, 512 * r.val, 0] (inbChunk h r) ![h.val, 0, 0] (inbRow h) ![2 * h.val + r.val, 0] (inbSum h r)

theorem trips_le (t : Fin k0_t1_loop.trips) : t.val < 32 := lt_of_lt_of_le t.isLt k0_t1_abs.2.1

/-- The head of a trip, and its half. -/
def headOf (t : Fin k0_t1_loop.trips) : Fin 16 := ⟨t.val / 2, by have := trips_le t; omega⟩
def halfOf (t : Fin k0_t1_loop.trips) : Fin 2 := ⟨t.val % 2, by omega⟩

theorem off1_at : ∀ t : Fin k0_t1_loop.trips, k0_off1 t = ![(headOf t).val, 512 * (halfOf t).val, 0] := by decide +kernel
theorem off2_at : ∀ t : Fin k0_t1_loop.trips, k0_off2 t = ![(headOf t).val, 0, 0] := by decide +kernel
theorem off3_at : ∀ t : Fin k0_t1_loop.trips, k0_off3 t = ![2 * (headOf t).val + (halfOf t).val, 0] := by decide +kernel

theorem tripO_congr {o₁ o₁' : Fin 3 → Nat} {i₁ i₁'} {o₂ o₂' : Fin 3 → Nat} {i₂ i₂'} {o₃ o₃' : Fin 2 → Nat} {i₃ i₃'}
    (h₁ : o₁ = o₁') (h₂ : o₂ = o₂') (h₃ : o₃ = o₃') :
    (tripO o₁ i₁ o₂ i₂ o₃ i₃ : Pg F PUnit) = tripO o₁' i₁' o₂' i₂' o₃' i₃' := by
  subst h₁ h₂ h₃; rfl

theorem trip_eq (t : Fin k0_t1_loop.trips) : (trip t : Pg F PUnit) = tripAt (headOf t) (halfOf t) :=
  tripO_congr (off1_at t) (off2_at t) (off3_at t)

/-- The two trips of a head. -/
def tripHead (h : Fin 16) : Pg F PUnit := do
  tripAt h 0
  tripAt h 1

theorem forFrom_eq {E : Type → Type} {n : Nat} (f : Fin n → Prog E PUnit) (l : List (Fin n)) :
    Scf.forFrom (fun t _ => f t) l ⟨⟩ = runL f l := by
  induction l with
  | nil => rfl
  | cons i l ih => exact congrArg (fun p => f i >>= p) (funext fun _ => ih)

theorem runL_map {E : Type → Type} {I J : Type} (f : J → Prog E PUnit) (g : I → J) (l : List I) :
    runL (fun i => f (g i)) l = runL f (l.map g) := by
  induction l with
  | nil => rfl
  | cons i l ih => rw [runL, List.map_cons, runL, ih]

/-- The heads' halves in order. -/
def pairs : List (Fin 16) → List (Fin 16 × Fin 2)
  | [] => []
  | h :: l => (h, 0) :: (h, 1) :: pairs l

theorem runL_pairs (l : List (Fin 16)) : runL (fun p => (tripAt p.1 p.2 : Pg F PUnit)) (pairs l) = runL tripHead l := by
  induction l with
  | nil => rfl
  | cons h l ih => simp only [pairs, runL, tripHead, ih, bind_assoc]

theorem trips_list : (List.finRange k0_t1_loop.trips).map (fun t => (headOf t, halfOf t)) = pairs heads := by decide +kernel

/-- The loop is the heads' trips in order. -/
theorem loop_eq : Scf.Loop.for k0_t1_loop k0_t1_ok ⟨⟩ (fun t _ => (trip t : Pg F PUnit)) = runL tripHead heads := by
  refine (Scf.for_eq k0_t1_loop.lb k0_t1_loop.ub k0_t1_loop.st k0_t1_ok _ _).trans ((forFrom_eq _ _).trans ?_)
  rw [show (trip : _ → Pg F PUnit) = fun t => tripAt (headOf t, halfOf t).1 (headOf t, halfOf t).2 from funext trip_eq,
    runL_map (fun p : Fin 16 × Fin 2 => (tripAt p.1 p.2 : Pg F PUnit)) (fun t => (headOf t, halfOf t)), ← runL_pairs, ← trips_list]

end Cert.KernelIdeal.Att

end
-- ==== Proof.Segments.lean ====
/- Each of the body's steps as one rule: what it takes for its head, and what it gives back. -/
module

public import proofs.«01_k».proof.Proof.Protocol
public import proofs.«01_k».proof.Proof.Loop

@[expose] public section

set_option maxRecDepth 16384

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ) (K : Dev nD × Option (Fin 4 × Fin 16) → ℕ)

/-- What a device owes, its waits not counted. -/
def owe (c : Dev nD) (O : CellTallies nD τ sig Unit) : sProp 𝕄 := iprop(∃ W, owes (c : Thread nD τ) O W)

/-- The records, and what is owed. -/
def owing (c : Dev nD) (O : CellTallies nD τ sig Unit) : sProp 𝕄 := iprop(facts m K ∗ owe c O)

theorem runs_bind (c : Dev nD) {α β : Type} (p : Pg F α) (k : α → Pg F β) (Q : β → sProp 𝕄) :
    runs c (p >>= k) Q = runs c p fun a => runs c (k a) Q := wp_bind ..

/-! ## Single steps -/

section Single
variable (c : Dev nD) (h : Fin 16)

theorem wp_fetch (a : Memref sig .tc .hbm S1x1024x16x128 .f32) (b : Memref sig .tc .vmem S16x1024x128 .f32) (s : DmaSems sig S16)
    (X : S1024x128.Idx → Elt F .f32) (Q : PUnit → sProp 𝕄) :
    iprop(holds c (col2 a h) fullShare X ∗ any c (row2 b h) ∗ semVal ((c : Thread nD τ), .dma (semAt s h)) 0
        ∗ (under c (col2 a h) (row2 b h) (semAt s h) fullShare X -∗ Q ⟨⟩))
      ⊢ runs c (fetch a b s h) Q := by
  unfold fetch Prog.lift
  iintro ⟨H1, H2, H3, Hk⟩
  iapply (wp_copy c (col2 a h) (row2 b h) (semAt s h) (by decide) fullShare X)
  isplitl [H1]; · iexact H1
  isplitl [H2]; · iexact H2
  isplitl [H3]; · iexact H3
  iintro H
  rw [runs, wp_ret]; imodintro
  iapply Hk; iexact H

/-- The fetch of a head is waited for: its row holds the head. -/
theorem wp_fetched (a : Memref sig .tc .hbm S1x1024x16x128 .f32) (b : Memref sig .tc .vmem S16x1024x128 .f32) (j : Fin 4)
    (X : S1024x128.Idx → Elt F .f32) {O : CellTallies nD τ sig Unit} (hO : Arrivals O) (Q : PUnit → sProp 𝕄) :
    iprop(under c (col2 a h) (row2 b h) (semAt (larr j) h) fullShare X ∗ owing m K c O
        ∗ ((holds c (row3 b h) fullShare (lift3 X) ∗ holds c (col2 a h) fullShare X ∗ semVal ((c : Thread nD τ), .dma (semAt (larr j) h)) 0
            ∗ owing m K c O) -∗ Q ⟨⟩))
      ⊢ runs c (waitFetch a b (larr j) h) Q := by
  unfold waitFetch Prog.lift owing owe
  iintro ⟨HF, ⟨#Hf, HO⟩, Hk⟩
  iapply (wp_copied c (col2 a h) (row2 b h) (semAt (larr j) h) fullShare X O)
  isplitl [HF]; · iexact HF
  isplitl [HO]; · iexact HO
  isplitr
  · iapply (mayWait_low c (lsem (j, h)) (by rw [lv_local]; decide) hO)
    iapply (facts_lev m K); iexact Hf
  iintro ⟨H1, H2, H3, HO⟩
  rw [runs, wp_ret]; imodintro
  iapply Hk
  isplitl [H1]
  · ihave H1' := (Entails.of_eq (show holds c (row2 b h) fullShare X = holds c (row3 b h) fullShare (lift3 X) by
      rw [← holds_row2, drop3_lift3])) $$ H1
    iexact H1'
  isplitl [H2]; · iexact H2
  isplitl [H3]; · iexact H3
  isplitr; · iexact Hf
  iexact HO

/-- A fetched row is cast and stored. -/
theorem wp_cast (f : Vec F S1x1024x128 .f32 → FVec F S1x1024x128 .bf16)
    (b : Memref sig .tc .vmem S16x1024x128 .f32) (b' : Memref sig .tc .vmem S16x1024x128 .bf16) (hb' : b'.IsWhole)
    (X : Vec F S1x1024x128 .f32) (Q : PUnit → sProp 𝕄) :
    iprop(holds c (row3 b h) fullShare X ∗ any c (row3 b' h)
        ∗ ((holds c (row3 b h) fullShare X ∗ holds c (row3 b' h) fullShare (f X)) -∗ Q ⟨⟩))
      ⊢ runs c (castStep f b b' hb' h) Q := by
  unfold castStep
  simp only [Prog.lift, Prog.bind_op, Prog.bind_ret]
  iintro ⟨H1, H2, Hk⟩
  iapply (wp_loadSlice c b (rRow h) (fun _ => rfl) fullShare X)
  isplitl [H1]; · iexact H1
  iintro H1
  iapply (wp_loadAny c b' (rRow h) (fun _ => rfl) (fun _ => rfl))
  isplitl [H2]; · iexact H2
  iintro H2
  iapply (wp_storeSlice c b' (rRow h) (fun _ => rfl) (f X))
  isplitl [H2]; · iexact H2
  iintro H2
  rw [runs, wp_ret]; imodintro
  iapply Hk
  isplitl [H1]; · iexact H1
  iexact H2

/-- A row is sent to the pair's other device, the half share lent to come back at the send's wait. -/
theorem wp_sendRow (b b' : Memref sig .tc .vmem S16x1024x128 .bf16) (hb : b.IsWhole) (hb' : b'.IsWhole) (j j' : Fin 4)
    (X : Vec F S1x1024x128 .bf16) (hp : pay m c (some (j, h)) = holds c (row3 b h) fullShare.right X)
    (hp' : pay m (tgt c) (some (j', h)) = holds (tgt c) (row3 b' h) fullShare X)
    (hsc : (row3 b' h).view.dmaCredit = N) (O : CellTallies nD τ sig Unit) (Q : PUnit → sProp 𝕄) :
    iprop(holds c (row3 b h) fullShare.right X ∗ any (tgt c) (row3 b' h) ∗ dutyTok ER (xcell c j h) 0 () ∗ dutyTok ER (xcell (tgt c) j' h) 0 ()
        ∗ owing m K c (O + tallyAt (xcell (tgt c) j' h) () N)
        ∗ ((cred (tallyAt (xcell c j h) () N) ∗ owing m K c O) -∗ Q ⟨⟩))
      ⊢ runs c (sendRow (tgt c) b b' hb hb' (xarr j) (xarr j') h) Q := by
  unfold sendRow Prog.lift owing owe any
  iintro ⟨H1, ⟨%fd, H2⟩, Ht1, Ht2, ⟨#Hf, ⟨%W, HO⟩⟩, Hk⟩
  ihave #Hi1 := (facts_inv m K c (some (j, h))) $$ Hf
  ihave #Hi2 := (facts_inv m K (tgt c) (some (j', h))) $$ Hf
  ihave #Hr1 := (facts_reached m K c (some (j, h))) $$ Hf
  ihave #Hr2 := (facts_reached m K (tgt c) (some (j', h))) $$ Hf
  unfold holds at hp hp' ⊢
  iapply (Rounds.wp_send_pointsTo 𝒱₀ ER (Rd m) (c : Thread nD τ) none (c' := (tgt c : Thread nD τ)) (src := row3 b h) (dst := row3 b' h)
    (sS := csem (some (j, h))) (sem := csem (some (j', h))) (κ₁ := K (c, some (j, h))) (κ₂ := K (tgt c, some (j', h)))
    (r₁ := 0) (r₂ := 0) (d₁ := ()) (d₂ := ()) (fd := fd) (W := W)
    (mem_duties m c _) (mem_duties m (tgt c) _) () () N hsc (amount_x m c (j, h) ()) (amount_x m (tgt c) (j', h) ()) O rfl
    (by rw [payload_cell, hp])
    (by rw [payload_cell, hp']; exact Entails.of_eq (holds_of (tgt c) (row3 b' h) fullShare _ (by rw [View.read_write_univ, View.read_rep]))) (by routes))
    $$ [H1 H2 HO Ht1 Ht2]
  · isplitr; · iexact Hi1
    isplitr; · iexact Hi2
    isplitl [H1]; · iexact H1
    isplitl [H2]; · iexact H2
    isplitl [HO]; · iexact HO
    isplitl [Ht1]; · iexact Ht1
    isplitr; · iexact Hr1
    isplitl [Ht2]; · iexact Ht2
    iexact Hr2
  iintro ⟨Hc, HO⟩
  rw [wp_ret]; imodintro
  iapply Hk
  isplitl [Hc]; · iexact Hc
  isplitr; · iexact Hf
  iexists W; iexact HO

/-- A semaphore of the exchange is waited for with nothing owed: its payload, and its counter back at zero. -/
theorem wp_waitRow (b b' : Memref sig .tc .vmem S16x1024x128 .bf16) (hb : b.IsWhole) (hb' : b'.IsWhole) (j : Fin 4)
    (hN : (row3 b' h).view.dmaCredit = N) (Q : PUnit → sProp 𝕄) :
    iprop(cred (tallyAt (xcell c j h) () N) ∗ atPos ER (xcell c j h) 0 ∅ 0 ∗ owing m K c 0
        ∗ ((pay m c (some (j, h)) ∗ semVal (xcell c j h) 0 ∗ owing m K c 0) -∗ Q ⟨⟩))
      ⊢ runs c (waitRow b b' hb hb' (xarr j) h) Q := by
  unfold waitRow Prog.lift owing owe
  iintro ⟨Hc, Hat, ⟨#Hf, ⟨%W, HO⟩⟩, Hk⟩
  ihave #Hi := (facts_inv m K c (some (j, h))) $$ Hf
  iapply (Rounds.wp_wait_rest_token 𝒱₀ ER (Rd m) (c : Thread nD τ) none (κ := K (c, some (j, h))) (sm := csem (some (j, h)))
      (wpE_waitDma2_eq 𝒱₀ (c : Thread nD τ) none Set.univ) (Set.mem_univ _) () (O := 0) (W := W) (R := 0) (m := 0) (T := ∅)
      (by rw [Nat.zero_add, expect_x]; exact hN)) $$ [Hc HO Hat]
  · isplitr; · iexact Hi
    isplitl [Hc]; · rw [hN]; iexact Hc
    isplitl [HO]; · iexact HO
    isplitr; · rw [MayWait_zero]; iempintro
    iexact Hat
  iintro ⟨HO, Hat, -, Hpay⟩
  ihave Hp := (Entails.of_eq (rest_cell m c (some (j, h)))) $$ Hpay
  imod (Rounds.cell_close ER (Rd m) (Set.mem_univ (K (c, some (j, h)))) (fun h => h) (R := 0 + 1) (duties_later m (xcell c j h))) $$ [Hat] with Hz
  · isplitr; · iexact Hi
    iexact Hat
  rw [wp_ret]; imodintro
  iapply Hk
  isplitl [Hp]; · iexact Hp
  isplitl [Hz]; · iexact Hz
  isplitr; · iexact Hf
  iexists _; iexact HO

end Single

/-! ## Halves joined to a row -/

/-- The row whose halves are given. -/
def glue {α : Type} (X : Fin 2 → S1x512x128.Idx → α) : S1x1024x128.Idx → α := fun i =>
  X ⟨(i 1).val / 512, by have : (i 1).val < 1024 := (i 1).isLt; omega⟩ fun
    | ⟨0, _⟩ => ⟨(i 0).val, (i 0).isLt⟩
    | ⟨1, _⟩ => ⟨(i 1).val % 512, Nat.mod_lt _ (by decide)⟩
    | ⟨2, _⟩ => ⟨(i 2).val, (i 2).isLt⟩

theorem half_glue {α : Type} (X : Fin 2 → S1x512x128.Idx → α) (r : Fin 2) : half r (glue X) = X r := by
  funext j
  have e : ∀ a, ((rHalf r).emb j a : Nat) = (![0, 512 * r.val, 0] : Fin 3 → Nat) a + (j a : Nat) := fun a =>
    ValueKit.rect_emb_unit_val (s := S1x1024x128) ![0, 512 * r.val, 0] S1x512x128.size (inbHalf r) j a
  have h1 : (j 1).val < 512 := (j 1).isLt
  have e1 : ((rHalf r).emb j 1 : Nat) = 512 * r.val + (j 1).val := e 1
  unfold half glue
  have hr : (⟨((rHalf r).emb j 1).val / 512, by have : ((rHalf r).emb j 1).val < 1024 := ((rHalf r).emb j 1).isLt; omega⟩ : Fin 2) = r := by
    apply Fin.ext; show ((rHalf r).emb j 1).val / 512 = r.val; omega
  rw [hr]
  congr 1
  funext a
  apply Fin.ext
  fin_cases a
  · exact (e 0).trans (Nat.zero_add _)
  · show ((rHalf r).emb j 1).val % 512 = (j 1).val; omega
  · exact (e 2).trans (Nat.zero_add _)

/-- Head `h` of device `c`'s result. -/
def outRow (c : Dev nD) (h : Fin 16) : Vec F S1x1024x128 .f32 := glue (outHalf m c h)
def outCol (c : Dev nD) (h : Fin 16) : S1024x128.Idx → Elt F .f32 := drop3 (outRow m c h)

/-! ## What each head's steps take and give -/

section Heads
variable (c : Dev nD) (h : Fin 16)

/-- Before a head's fetch: the head, its row at anything, its semaphore at zero. -/
def before (a : Memref sig .tc .hbm S1x1024x16x128 .f32) (b : Memref sig .tc .vmem S16x1024x128 .f32) (j : Fin 4)
    (X : S1024x128.Idx → Elt F .f32) : sProp 𝕄 :=
  iprop(holds c (col2 a h) fullShare X ∗ any c (row3 b h) ∗ semVal ((c : Thread nD τ), lsem (j, h)) 0)
/-- During the fetch. -/
def during (a : Memref sig .tc .hbm S1x1024x16x128 .f32) (b : Memref sig .tc .vmem S16x1024x128 .f32) (j : Fin 4)
    (X : S1024x128.Idx → Elt F .f32) : sProp 𝕄 := under c (col2 a h) (row2 b h) (semAt (larr j) h) fullShare X

theorem wp_fetch' (a : Memref sig .tc .hbm S1x1024x16x128 .f32) (b : Memref sig .tc .vmem S16x1024x128 .f32) (j : Fin 4)
    (X : S1024x128.Idx → Elt F .f32) (Q : PUnit → sProp 𝕄) :
    iprop(before c h a b j X ∗ (during c h a b j X -∗ Q ⟨⟩)) ⊢ runs c (fetch a b (larr j) h) Q := by
  unfold before during
  iintro ⟨⟨H1, H2, H3⟩, Hk⟩
  iapply (wp_fetch c h a b (larr j) X)
  isplitl [H1]; · iexact H1
  isplitl [H2]
  · ihave H2' := (Entails.of_eq (any_row2 c b h).symm) $$ H2
    iexact H2'
  isplitl [H3]; · iexact H3
  iexact Hk

/-- A head fetched and cast: before, with the row it is cast into at anything, to after, holding the cast. -/
theorem wp_fetchCast (a : Memref sig .tc .hbm S1x1024x16x128 .f32) (b : Memref sig .tc .vmem S16x1024x128 .f32) (j : Fin 4)
    (f : Vec F S1x1024x128 .f32 → FVec F S1x1024x128 .bf16) (b' : Memref sig .tc .vmem S16x1024x128 .bf16) (hb' : b'.IsWhole)
    (X : S1024x128.Idx → Elt F .f32) {O : CellTallies nD τ sig Unit} (hO : Arrivals O) (p : Pg F PUnit) (Q : PUnit → sProp 𝕄) :
    iprop(during c h a b j X ∗ any c (row3 b' h) ∗ owing m K c O
        ∗ ((before c h a b j X ∗ holds c (row3 b' h) fullShare (f (lift3 X)) ∗ owing m K c O) -∗ runs c p Q))
      ⊢ runs c (waitFetch a b (larr j) h >>= fun _ => castStep f b b' hb' h >>= fun _ => p) Q := by
  unfold during before
  iintro ⟨H1, H2, HO, Hk⟩
  rw [runs_bind]
  iapply (wp_fetched m K c h a b j X hO)
  isplitl [H1]; · iexact H1
  isplitl [HO]; · iexact HO
  iintro ⟨H1, H3, H4, HO⟩
  rw [runs_bind]
  iapply (wp_cast c h f b b' hb' (lift3 X))
  isplitl [H1]; · iexact H1
  isplitl [H2]; · iexact H2
  iintro ⟨H1, H2⟩
  iapply Hk
  isplitl [H1 H3 H4]
  · isplitl [H3]; · iexact H3
    isplitl [H1]; · iapply (any_of_holds c (row3 b h) _); iexact H1
    iexact H4
  isplitl [H2]; · iexact H2
  iexact HO

/-- Before a row is cast and sent: the row at anything, the other device's at anything, the two tokens. -/
def toSend (b b' : Memref sig .tc .vmem S16x1024x128 .bf16) (j j' : Fin 4) : sProp 𝕄 :=
  iprop(any c (row3 b h) ∗ any (tgt c) (row3 b' h) ∗ dutyTok ER (xcell c j h) 0 () ∗ dutyTok ER (xcell (tgt c) j' h) 0 ())
/-- A row sent: the half share kept, the send's credit. -/
def sent (b : Memref sig .tc .vmem S16x1024x128 .bf16) (j : Fin 4) (X : Vec F S1x1024x128 .bf16) : sProp 𝕄 :=
  iprop(holds c (row3 b h) fullShare.left X ∗ cred (tallyAt (xcell c j h) () N))

theorem wp_stageOne (a : Memref sig .tc .hbm S1x1024x16x128 .f32) (b : Memref sig .tc .vmem S16x1024x128 .f32) (i : Fin 4)
    (b' b'' : Memref sig .tc .vmem S16x1024x128 .bf16) (hb' : b'.IsWhole) (hb'' : b''.IsWhole) (j j' : Fin 4)
    (X : S1024x128.Idx → Elt F .f32) (hp : pay m c (some (j, h)) = holds c (row3 b' h) fullShare.right (castRow (lift3 X)))
    (hp' : pay m (tgt c) (some (j', h)) = holds (tgt c) (row3 b'' h) fullShare (castRow (lift3 X)))
    (hsc : (row3 b'' h).view.dmaCredit = N) {O : CellTallies nD τ sig Unit} (hO : Arrivals O) (hj : j' = 2 ∨ j' = 3) (Q : PUnit → sProp 𝕄) :
    iprop(during c h a b i X ∗ toSend c h b' b'' j j' ∗ owing m K c (O + tallyAt (xcell (tgt c) j' h) () N)
        ∗ ((before c h a b i X ∗ sent c h b' j (castRow (lift3 X)) ∗ owing m K c O) -∗ Q ⟨⟩))
      ⊢ runs c (waitFetch a b (larr i) h >>= fun _ => castStep castRow b b' hb' h >>= fun _ =>
          sendRow (tgt c) b' b'' hb' hb'' (xarr j) (xarr j') h) Q := by
  unfold toSend sent
  iintro ⟨H1, ⟨H2, H3, Ht1, Ht2⟩, HO, Hk⟩
  iapply (wp_fetchCast m K c h a b i castRow b' hb' X (hO.add (tgt c) j' hj h N))
  isplitl [H1]; · iexact H1
  isplitl [H2]; · iexact H2
  isplitl [HO]; · iexact HO
  iintro ⟨H1, H2, HO⟩
  ihave H2' := (holds_halves c (row3 b' h) (castRow (lift3 X))).1 $$ H2
  icases H2' with ⟨HL, HR⟩
  iapply (wp_sendRow m K c h b' b'' hb' hb'' j j' (castRow (lift3 X)) hp hp' hsc O)
  isplitl [HR]; · iexact HR
  isplitl [H3]; · iexact H3
  isplitl [Ht1]; · iexact Ht1
  isplitl [Ht2]; · iexact Ht2
  isplitl [HO]; · iexact HO
  iintro ⟨Hc, HO⟩
  iapply Hk
  isplitl [H1]; · iexact H1
  isplitl [HL Hc]
  · isplitl [HL]; · iexact HL
    iexact Hc
  iexact HO

theorem wp_startKV (Q : PUnit → sProp 𝕄) :
    iprop((before c h mK kst 0 (kCol m c h) ∗ before c h mV vst 1 (vCol m c h))
        ∗ ((during c h mK kst 0 (kCol m c h) ∗ during c h mV vst 1 (vCol m c h)) -∗ Q ⟨⟩))
      ⊢ runs c (startKV h) Q := by
  iintro ⟨⟨H1, H2⟩, Hk⟩
  rw [show runs c (startKV h) Q = runs c (fetch mK kst (larr 0) h) (fun _ => runs c (fetch mV vst (larr 1) h) Q) from runs_bind ..]
  iapply (wp_fetch' c h mK kst 0 (kCol m c h))
  isplitl [H1]; · iexact H1
  iintro H1
  iapply (wp_fetch' c h mV vst 1 (vCol m c h))
  isplitl [H2]; · iexact H2
  iintro H2
  iapply Hk
  isplitl [H1]; · iexact H1
  iexact H2

theorem wp_stage (l : List (Fin 16)) (Q : PUnit → sProp 𝕄) :
    iprop(((during c h mK kst 0 (kCol m c h) ∗ during c h mV vst 1 (vCol m c h)) ∗ toSend c h kb ck 0 2 ∗ toSend c h vb cv 1 3)
        ∗ owing m K c (owedL c (h :: l))
        ∗ ((((before c h mK kst 0 (kCol m c h) ∗ before c h mV vst 1 (vCol m c h)) ∗ sent c h kb 0 (kRow m c h) ∗ sent c h vb 1 (vRow m c h))
            ∗ owing m K c (owedL c l)) -∗ Q ⟨⟩))
      ⊢ runs c (stage (tgt c) h) Q := by
  iintro ⟨⟨⟨H1, H2⟩, H3, H4⟩, HO, Hk⟩
  rw [show runs c (stage (tgt c) h) Q = runs c (waitFetch mK kst (larr 0) h >>= fun _ => castStep castRow kst kb (Memref.isWhole_whole _) h >>= fun _ =>
      sendRow (tgt c) kb ck (Memref.isWhole_whole _) (Memref.isWhole_whole _) (xarr 0) (xarr 2) h) (fun _ => runs c
      (waitFetch mV vst (larr 1) h >>= fun _ => castStep castRow vst vb (Memref.isWhole_whole _) h >>= fun _ =>
      sendRow (tgt c) vb cv (Memref.isWhole_whole _) (Memref.isWhole_whole _) (xarr 1) (xarr 3) h) Q) from by
    rw [← runs_bind]; simp only [bind_assoc]; rfl]
  iapply (wp_stageOne m K c h mK kst 0 kb ck (Memref.isWhole_whole _) (Memref.isWhole_whole _) 0 2 (kCol m c h) rfl
    (by show holds (tgt c) (row3 ck h) fullShare (kRow m (tgt (tgt c)) h) = _; rw [tgt_tgt]; rfl) (N_ck h)
    (O := owedL c l + tallyAt (xcell (tgt c) 3 h) () N) ((arrivals_owedL c l).add _ _ (.inr rfl) _ _) (.inl rfl))
  isplitl [H1]; · iexact H1
  isplitl [H3]; · iexact H3
  isplitl [HO]; · iexact HO
  iintro ⟨H1, H3, HO⟩
  iapply (wp_stageOne m K c h mV vst 1 vb cv (Memref.isWhole_whole _) (Memref.isWhole_whole _) 1 3 (vCol m c h) rfl
    (by show holds (tgt c) (row3 cv h) fullShare (vRow m (tgt (tgt c)) h) = _; rw [tgt_tgt]; rfl) (N_cv h)
    (O := owedL c l) (arrivals_owedL c l) (.inr rfl))
  isplitl [H2]; · iexact H2
  isplitl [H4]; · iexact H4
  isplitl [HO]; · iexact HO
  iintro ⟨H2, H4, HO⟩
  iapply Hk
  isplitl [H1 H2 H3 H4]
  · isplitl [H1 H2]
    · isplitl [H1]; · iexact H1
      iexact H2
    isplitl [H3]; · iexact H3
    iexact H4
  iexact HO

theorem wp_stageQ (Q : PUnit → sProp 𝕄) :
    iprop((during c h mQ qst 2 (qCol m c h) ∗ any c (row3 qb h)) ∗ owing m K c 0
        ∗ (((before c h mQ qst 2 (qCol m c h) ∗ holds c (row3 qb h) fullShare (qRow m c h)) ∗ owing m K c 0) -∗ Q ⟨⟩))
      ⊢ runs c (stageQ h) Q := by
  iintro ⟨⟨H1, H2⟩, HO, Hk⟩
  rw [show (stageQ h : Pg F PUnit) = (waitFetch mQ qst (larr 2) h >>= fun _ => castStep castQ qst qb (Memref.isWhole_whole _) h >>= fun _ =>
    .ret ⟨⟩) from by unfold stageQ; exact congrArg _ (funext fun _ => (bind_pure _).symm)]
  iapply (wp_fetchCast m K c h mQ qst 2 castQ qb (Memref.isWhole_whole _) (qCol m c h) Arrivals.zero)
  isplitl [H1]; · iexact H1
  isplitl [H2]; · iexact H2
  isplitl [HO]; · iexact HO
  iintro ⟨H1, H2, HO⟩
  rw [runs, wp_ret]; imodintro
  iapply Hk
  isplitl [H1 H2]
  · isplitl [H1]; · iexact H1
    iexact H2
  iexact HO

/-- A half head's own part: its weighted values and its sums. -/
def own (r : Fin 2) : sProp 𝕄 :=
  iprop(holds c (chk ov h r) fullShare (ownO m c h r) ∗ holds c (srow ls h r) fullShare (ownL m c h r))

/-- A trip of the loop. -/
theorem wp_tripAt (r : Fin 2) (Q : PUnit → sProp 𝕄) :
    iprop(holds c (chk qb h r) fullShare (half r (qRow m c h)) ∗ holds c (row3 kb h) fullShare.left (kRow m c h)
        ∗ holds c (row3 vb h) fullShare.left (vRow m c h) ∗ any c (chk ov h r) ∗ any c (srow ls h r)
        ∗ ((holds c (chk qb h r) fullShare (half r (qRow m c h)) ∗ holds c (row3 kb h) fullShare.left (kRow m c h)
            ∗ holds c (row3 vb h) fullShare.left (vRow m c h) ∗ own m c h r) -∗ Q ⟨⟩))
      ⊢ runs c (tripAt h r) Q := by
  unfold tripAt tripO own
  simp only [Prog.lift, Prog.bind_op, Prog.bind_ret]
  iintro ⟨Hq, Hkb, Hv, Ho, Hl, Hk⟩
  iapply (wp_loadSlice c qb (rChunk h r) (fun _ => rfl) fullShare (half r (qRow m c h)))
  isplitl [Hq]; · iexact Hq
  iintro Hq
  iapply (wp_loadSlice c kb (rRow h) (fun _ => rfl) fullShare.left (kRow m c h))
  isplitl [Hkb]; · iexact Hkb
  iintro Hkb
  iapply (wp_loadSlice c vb (rRow h) (fun _ => rfl) fullShare.left (vRow m c h))
  isplitl [Hv]; · iexact Hv
  iintro Hv
  iapply (wp_loadAny c ov (rChunk h r) (fun _ => rfl) (fun _ => rfl))
  isplitl [Ho]; · iexact Ho
  iintro Ho
  iapply (wp_storeSlice c ov (rChunk h r) (fun _ => rfl) (ownO m c h r))
  isplitl [Ho]; · iexact Ho
  iintro Ho
  iapply (wp_loadAny c ls (rSum h r) (fun _ => rfl) (fun _ => rfl))
  isplitl [Hl]; · iexact Hl
  iintro Hl
  iapply (wp_storeSlice c ls (rSum h r) (fun _ => rfl) (ownL m c h r))
  isplitl [Hl]; · iexact Hl
  iintro Hl
  rw [runs, wp_ret]; imodintro
  iapply Hk
  isplitl [Hq]; · iexact Hq
  isplitl [Hkb]; · iexact Hkb
  isplitl [Hv]; · iexact Hv
  isplitl [Ho]; · iexact Ho
  iexact Hl

/-- The two trips of a head. -/
theorem wp_tripHead (Q : PUnit → sProp 𝕄) :
    iprop((holds c (row3 qb h) fullShare (qRow m c h) ∗ holds c (row3 kb h) fullShare.left (kRow m c h)
          ∗ holds c (row3 vb h) fullShare.left (vRow m c h) ∗ any c (row3 ov h) ∗ any c (srow ls h 0) ∗ any c (srow ls h 1))
        ∗ ((holds c (row3 qb h) fullShare (qRow m c h) ∗ holds c (row3 kb h) fullShare.left (kRow m c h)
            ∗ holds c (row3 vb h) fullShare.left (vRow m c h) ∗ own m c h 0 ∗ own m c h 1) -∗ Q ⟨⟩))
      ⊢ runs c (tripHead h) Q := by
  iintro ⟨⟨Hq, Hkb, Hv, Ho, Hl0, Hl1⟩, Hk⟩
  ihave Hq' := (holds_chk c qb h fullShare (qRow m c h)).1 $$ Hq
  icases Hq' with ⟨Hq0, Hq1⟩
  ihave Ho' := (any_chk c ov h) $$ Ho
  icases Ho' with ⟨Ho0, Ho1⟩
  rw [show runs c (tripHead h) Q = runs c (tripAt h 0) (fun _ => runs c (tripAt h 1) Q) from runs_bind ..]
  iapply (wp_tripAt m c h 0)
  isplitl [Hq0]; · iexact Hq0
  isplitl [Hkb]; · iexact Hkb
  isplitl [Hv]; · iexact Hv
  isplitl [Ho0]; · iexact Ho0
  isplitl [Hl0]; · iexact Hl0
  iintro ⟨Hq0, Hkb, Hv, H0⟩
  iapply (wp_tripAt m c h 1)
  isplitl [Hq1]; · iexact Hq1
  isplitl [Hkb]; · iexact Hkb
  isplitl [Hv]; · iexact Hv
  isplitl [Ho1]; · iexact Ho1
  isplitl [Hl1]; · iexact Hl1
  iintro ⟨Hq1, Hkb, Hv, H1⟩
  iapply Hk
  isplitl [Hq0 Hq1]
  · iapply (holds_chk c qb h fullShare (qRow m c h)).2
    isplitl [Hq0]; · iexact Hq0
    iexact Hq1
  isplitl [Hkb]; · iexact Hkb
  isplitl [Hv]; · iexact Hv
  isplitl [H0]; · iexact H0
  iexact H1

/-- Half a head's result joined. -/
theorem wp_joinStep (r : Fin 2) (Q : PUnit → sProp 𝕄) :
    iprop(holds c (chk qb h r) fullShare (half r (qRow m c h)) ∗ pay m c (some (2, h)) ∗ pay m c (some (3, h)) ∗ own m c h r
        ∗ ((holds c (chk qb h r) fullShare (half r (qRow m c h)) ∗ pay m c (some (2, h)) ∗ pay m c (some (3, h))
            ∗ holds c (chk ov h r) fullShare (outHalf m c h r) ∗ holds c (srow ls h r) fullShare (ownL m c h r)) -∗ Q ⟨⟩))
      ⊢ runs c (joinStep h r) Q := by
  unfold joinStep own
  simp only [Prog.lift, Prog.bind_op, Prog.bind_ret, pay]
  iintro ⟨Hq, Hkb, Hv, ⟨Ho, Hl⟩, Hk⟩
  iapply (wp_loadSlice c qb (rChunk h r) (fun _ => rfl) fullShare (half r (qRow m c h)))
  isplitl [Hq]; · iexact Hq
  iintro Hq
  iapply (wp_loadSlice c ck (rRow h) (fun _ => rfl) fullShare (kRow m (tgt c) h))
  isplitl [Hkb]; · iexact Hkb
  iintro Hkb
  iapply (wp_loadSlice c cv (rRow h) (fun _ => rfl) fullShare (vRow m (tgt c) h))
  isplitl [Hv]; · iexact Hv
  iintro Hv
  iapply (wp_loadSlice c ls (rSum h r) (fun _ => rfl) fullShare (ownL m c h r))
  isplitl [Hl]; · iexact Hl
  iintro Hl
  iapply (wp_loadSlice c ov (rChunk h r) (fun _ => rfl) fullShare (ownO m c h r))
  isplitl [Ho]; · iexact Ho
  iintro Ho
  iapply (wp_loadSlice c ov (rChunk h r) (fun _ => rfl) fullShare (ownO m c h r))
  isplitl [Ho]; · iexact Ho
  iintro Ho
  iapply (wp_storeSlice c ov (rChunk h r) (fun _ => rfl) (outHalf m c h r))
  isplitl [Ho]; · iapply (any_of_holds c (chk ov h r) (ownO m c h r)); iexact Ho
  iintro Ho
  rw [runs, wp_ret]; imodintro
  iapply Hk
  isplitl [Hq]; · iexact Hq
  isplitl [Hkb]; · iexact Hkb
  isplitl [Hv]; · iexact Hv
  isplitl [Ho]; · iexact Ho
  iexact Hl

/-- A semaphore to wait for: its credit, and the position before its round. -/
def awaited (j : Fin 4) : sProp 𝕄 := iprop(cred (tallyAt (xcell c j h) () N) ∗ atPos ER (xcell c j h) 0 ∅ 0)
/-- A semaphore waited for: its payload, and its counter at zero. -/
def arrived (j : Fin 4) : sProp 𝕄 := iprop(pay m c (some (j, h)) ∗ semVal (xcell c j h) 0)
/-- A result row under way. -/
def putting : sProp 𝕄 := under c (row2 ov h) (col2 mO h) (semAt (larr 3) h) fullShare (outCol m c h)

theorem wp_arrive (b b' : Memref sig .tc .vmem S16x1024x128 .bf16) (hb : b.IsWhole) (hb' : b'.IsWhole) (j : Fin 4)
    (hN : (row3 b' h).view.dmaCredit = N) (Q : PUnit → sProp 𝕄) :
    iprop(awaited c h j ∗ owing m K c 0 ∗ ((arrived m c h j ∗ owing m K c 0) -∗ Q ⟨⟩)) ⊢ runs c (waitRow b b' hb hb' (xarr j) h) Q := by
  unfold awaited arrived
  iintro ⟨⟨Hc, Ha⟩, HO, Hk⟩
  iapply (wp_waitRow m K c h b b' hb hb' j hN)
  isplitl [Hc]; · iexact Hc
  isplitl [Ha]; · iexact Ha
  isplitl [HO]; · iexact HO
  iintro ⟨Hp, Hz, HO⟩
  iapply Hk
  isplitl [Hp Hz]
  · isplitl [Hp]; · iexact Hp
    iexact Hz
  iexact HO

/-- A head's arrivals, its result joined and sent out. -/
theorem wp_finish (Q : PUnit → sProp 𝕄) :
    iprop((holds c (row3 qb h) fullShare (qRow m c h) ∗ awaited c h 2 ∗ awaited c h 3 ∗ own m c h 0 ∗ own m c h 1
          ∗ any c (col2 mO h) ∗ semVal ((c : Thread nD τ), lsem (3, h)) 0) ∗ owing m K c 0
        ∗ (((holds c (row3 qb h) fullShare (qRow m c h) ∗ arrived m c h 2 ∗ arrived m c h 3
            ∗ holds c (srow ls h 0) fullShare (ownL m c h 0) ∗ holds c (srow ls h 1) fullShare (ownL m c h 1) ∗ putting m c h)
            ∗ owing m K c 0) -∗ Q ⟨⟩))
      ⊢ runs c (finish h) Q := by
  iintro ⟨⟨Hq, H2, H3, Ho0, Ho1, HO', Hs⟩, HO, Hk⟩
  rw [show runs c (finish h) Q = runs c (waitRow kb ck (Memref.isWhole_whole _) (Memref.isWhole_whole _) (xarr 2) h) (fun _ =>
      runs c (waitRow vb cv (Memref.isWhole_whole _) (Memref.isWhole_whole _) (xarr 3) h) (fun _ => runs c (joinStep h 0) (fun _ =>
      runs c (joinStep h 1) (fun _ => runs c (putOut h) Q)))) from by rw [← runs_bind, ← runs_bind, ← runs_bind, ← runs_bind]; rfl]
  iapply (wp_arrive m K c h kb ck _ _ 2 (N_ck h))
  isplitl [H2]; · iexact H2
  isplitl [HO]; · iexact HO
  iintro ⟨H2, HO⟩
  iapply (wp_arrive m K c h vb cv _ _ 3 (N_cv h))
  isplitl [H3]; · iexact H3
  isplitl [HO]; · iexact HO
  iintro ⟨H3, HO⟩
  unfold arrived
  icases H2 with ⟨H2, Hz2⟩
  icases H3 with ⟨H3, Hz3⟩
  ihave Hq' := (holds_chk c qb h fullShare (qRow m c h)).1 $$ Hq
  icases Hq' with ⟨Hq0, Hq1⟩
  iapply (wp_joinStep m c h 0)
  isplitl [Hq0]; · iexact Hq0
  isplitl [H2]; · iexact H2
  isplitl [H3]; · iexact H3
  isplitl [Ho0]; · iexact Ho0
  iintro ⟨Hq0, H2, H3, Ho0, Hl0⟩
  iapply (wp_joinStep m c h 1)
  isplitl [Hq1]; · iexact Hq1
  isplitl [H2]; · iexact H2
  isplitl [H3]; · iexact H3
  isplitl [Ho1]; · iexact Ho1
  iintro ⟨Hq1, H2, H3, Ho1, Hl1⟩
  ihave Hrow := (Entails.of_eq (show iprop(holds c (chk ov h 0) fullShare (outHalf m c h 0) ∗ holds c (chk ov h 1) fullShare (outHalf m c h 1))
      = iprop(holds c (chk ov h 0) fullShare (half 0 (outRow m c h)) ∗ holds c (chk ov h 1) fullShare (half 1 (outRow m c h))) by
    unfold outRow; rw [half_glue, half_glue])) $$ [Ho0 Ho1]
  · isplitl [Ho0]; · iexact Ho0
    iexact Ho1
  ihave Hrow := (holds_chk c ov h fullShare (outRow m c h)).2 $$ Hrow
  ihave Hrow := (Entails.of_eq (holds_row2 c ov h fullShare (outRow m c h)).symm) $$ Hrow
  unfold putOut Prog.lift putting
  iapply (wp_copy c (row2 ov h) (col2 mO h) (semAt (larr 3) h) (by decide) fullShare (outCol m c h))
  isplitl [Hrow]; · unfold outCol; iexact Hrow
  isplitl [HO']; · iexact HO'
  isplitl [Hs]; · iexact Hs
  iintro Hu
  rw [runs, wp_ret]; imodintro
  iapply Hk
  isplitr [HO]
  · isplitl [Hq0 Hq1]
    · iapply (holds_chk c qb h fullShare (qRow m c h)).2
      isplitl [Hq0]; · iexact Hq0
      iexact Hq1
    isplitl [H2 Hz2]
    · isplitl [H2]; · iexact H2
      iexact Hz2
    isplitl [H3 Hz3]
    · isplitl [H3]; · iexact H3
      iexact Hz3
    isplitl [Hl0]; · iexact Hl0
    isplitl [Hl1]; · iexact Hl1
    iexact Hu
  iexact HO

/-- A result row's transfer waited for. -/
theorem wp_waitOut (Q : PUnit → sProp 𝕄) :
    iprop(putting m c h ∗ owing m K c 0
        ∗ (((holds c (col2 mO h) fullShare (outCol m c h) ∗ any c (row3 ov h) ∗ semVal ((c : Thread nD τ), lsem (3, h)) 0)
            ∗ owing m K c 0) -∗ Q ⟨⟩))
      ⊢ runs c (waitOut h) Q := by
  unfold waitOut Prog.lift putting owing owe
  iintro ⟨HF, ⟨#Hf, HO⟩, Hk⟩
  iapply (wp_copied c (row2 ov h) (col2 mO h) (semAt (larr 3) h) fullShare (outCol m c h) 0)
  isplitl [HF]; · iexact HF
  isplitl [HO]; · iexact HO
  isplitr; · rw [MayWait_zero]; iempintro
  iintro ⟨H1, H2, H3, HO⟩
  rw [runs, wp_ret]; imodintro
  iapply Hk
  isplitr [HO]
  · isplitl [H1]; · iexact H1
    isplitl [H2]
    · ihave H2' := (any_of_holds c (row2 ov h) _) $$ H2
      ihave H2' := (Entails.of_eq (any_row2 c ov h)) $$ H2'
      iexact H2'
    iexact H3
  isplitr; · iexact Hf
  iexact HO

/-- A head's sends waited for: the lent halves back. -/
theorem wp_waitSend (Q : PUnit → sProp 𝕄) :
    iprop((awaited c h 0 ∗ awaited c h 1) ∗ owing m K c 0 ∗ (((arrived m c h 0 ∗ arrived m c h 1) ∗ owing m K c 0) -∗ Q ⟨⟩))
      ⊢ runs c (waitSend h) Q := by
  iintro ⟨⟨H2, H3⟩, HO, Hk⟩
  rw [show runs c (waitSend h) Q = runs c (waitRow ck kb (Memref.isWhole_whole _) (Memref.isWhole_whole _) (xarr 0) h) (fun _ =>
      runs c (waitRow cv vb (Memref.isWhole_whole _) (Memref.isWhole_whole _) (xarr 1) h) Q) from runs_bind ..]
  iapply (wp_arrive m K c h ck kb _ _ 0 (N_kb h))
  isplitl [H2]; · iexact H2
  isplitl [HO]; · iexact HO
  iintro ⟨H2, HO⟩
  iapply (wp_arrive m K c h cv vb _ _ 1 (N_vb h))
  isplitl [H3]; · iexact H3
  isplitl [HO]; · iexact HO
  iintro ⟨H3, HO⟩
  iapply Hk
  isplitl [H2 H3]
  · isplitl [H2]; · iexact H2
    iexact H3
  iexact HO

end Heads

end Cert.KernelIdeal.Att

end
-- ==== Proof.Buffers.lean ====
/- Whole buffers and their heads: a buffer held is its sixteen rows, columns or pairs of sums held. -/
module

public import proofs.«01_k».proof.Proof.Steps
public import Idealize.ShloMosaic.Lib.ValueLayout

@[expose] public section

set_option maxRecDepth 16384

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ UU ℕ

/-! ## Cut into blocks -/

section Blocks
variable (c : Dev nD) {sp : Space} {s : Shape} {e : EltTy} (b : Memref sig .tc sp s e)
variable {J : Type} [Fintype J] [DecidableEq J] (R : J → Finset s.Idx)
  (hd : ∀ i j, i ≠ j → Disjoint (R i) (R j)) (hc : ∀ x, ∃ j, x ∈ R j)
include hd hc

omit hd in
theorem setOn_cover : ((Finset.univ : Finset J).biUnion fun j => (b.view.setOn (R j) : Finset (Idx (b.view.loc ((0 : Dev nD) : Thread nD τ))))) = b.view.set := by
  ext x
  constructor
  · intro hx
    obtain ⟨j, -, hj⟩ := Finset.mem_biUnion.mp hx
    exact View.setOn_subset_set _ _ hj
  · intro hx
    obtain ⟨y, -, rfl⟩ := Finset.mem_map.mp hx
    obtain ⟨j, hj⟩ := hc y
    exact Finset.mem_biUnion.mpr ⟨j, Finset.mem_univ _, Finset.mem_map.mpr ⟨y, hj, rfl⟩⟩

theorem pts_blocks (q : PosShare TreeShare) (f : Buf (Elt F) (b.view.loc (c : Thread nD τ))) :
    (b.view.loc (c : Thread nD τ) ↦[b.view.set]{q} f : sProp 𝕄)
      = bigSep Finset.univ fun j => b.view.loc (c : Thread nD τ) ↦[b.view.setOn (R j)]{q} f := by
  have h := pointsTo_biUnion (Ix := Unit) (Val := Elt F) (Name := ℕ) (U := UU) (Lvl := ℕ) (ℓ := b.view.loc (c : Thread nD τ)) (q := q) (f := f)
    Finset.univ (fun j => b.view.setOn (R j)) (fun i _ j _ h => setOn_disjoint b.view (hd i j h))
  rw [setOn_cover b R hc] at h
  exact h

theorem any_join : bigSep Finset.univ (fun j => iprop(∃ f : Buf (Elt F) (b.view.loc (c : Thread nD τ)), b.view.loc (c : Thread nD τ) ↦[b.view.setOn (R j)]{fullShare} f))
    ⊢ (any c b : sProp 𝕄) := by
  have : Nonempty (Buf (Elt F) (b.view.loc (c : Thread nD τ))) := ⟨fun _ => Classical.choice (elt_nonempty _)⟩
  refine (bigSep_exists_pi Finset.univ (fun j (f : Buf (Elt F) (b.view.loc (c : Thread nD τ))) =>
    (b.view.loc (c : Thread nD τ) ↦[b.view.setOn (R j)]{fullShare} f : sProp 𝕄))).trans ?_
  iintro ⟨%fs, H⟩
  ihave H' := (pointsTo_biUnion_join Finset.univ (fun j => b.view.setOn (R j)) fs (fun _ => Classical.choice (elt_nonempty _))
    (fun i _ j _ h => setOn_disjoint b.view (hd i j h))) $$ H
  icases H' with ⟨%g, -, H⟩
  rw [setOn_cover b R hc]
  unfold any; iexists g; iexact H

theorem any_cut : (any c b : sProp 𝕄)
    ⊢ bigSep Finset.univ (fun j => iprop(∃ f : Buf (Elt F) (b.view.loc (c : Thread nD τ)), b.view.loc (c : Thread nD τ) ↦[b.view.setOn (R j)]{fullShare} f)) := by
  unfold any
  iintro ⟨%f, H⟩
  ihave H' := (Entails.of_eq (pts_blocks c b R hd hc fullShare f)) $$ H
  have h : ∀ j, (b.view.loc (c : Thread nD τ) ↦[b.view.setOn (R j)]{fullShare} f : sProp 𝕄)
      ⊢ iprop(∃ f : Buf (Elt F) (b.view.loc (c : Thread nD τ)), b.view.loc (c : Thread nD τ) ↦[b.view.setOn (R j)]{fullShare} f) := fun j => by
    iintro H; iexists f; iexact H
  have hm : (bigSep Finset.univ fun j => (b.view.loc (c : Thread nD τ) ↦[b.view.setOn (R j)]{fullShare} f : sProp 𝕄))
      ⊢ bigSep Finset.univ (fun j => iprop(∃ f : Buf (Elt F) (b.view.loc (c : Thread nD τ)), b.view.loc (c : Thread nD τ) ↦[b.view.setOn (R j)]{fullShare} f)) :=
    bigSep_mono fun j _ => h j
  iapply hm; iexact H'

end Blocks

/-! ## Rows -/

theorem rRow_apart (i j : Fin 16) (h : i ≠ j) : Disjoint (rRow i).set (rRow j).set := by
  rw [Finset.disjoint_left]
  intro x hi hj
  rw [Rect.mem_set_unit] at hi hj
  have a := hi 0; have b := hj 0
  simp at a b
  exact h (Fin.ext (by omega))

theorem rRow_cover (x : S16x1024x128.Idx) : ∃ j, x ∈ (rRow j).set := by
  have h0 : (x 0).val < 16 := (x 0).isLt
  have h1 : (x 1).val < 1024 := (x 1).isLt
  have h2 : (x 2).val < 128 := (x 2).isLt
  refine ⟨⟨(x 0).val, h0⟩, ?_⟩
  rw [Rect.mem_set_unit]
  intro a
  fin_cases a
  · exact ⟨Nat.le_refl _, Nat.lt_succ_self _⟩
  · exact ⟨Nat.zero_le _, by show (x 1).val < 0 + 1024; omega⟩
  · exact ⟨Nat.zero_le _, by show (x 2).val < 0 + 128; omega⟩

section Rows
variable (c : Dev nD) {sp : Space} {e : EltTy} (b : Memref sig .tc sp S16x1024x128 e)

theorem row3_setOn (h : Fin 16) : (row3 b h).view.set = b.view.setOn (rRow h).set := View.set_slice _ _

theorem any_rows : (any c b : sProp 𝕄) ⊣⊢ bigSep Finset.univ fun h => any c (row3 b h) := by
  have e : (fun h => any c (row3 b h) : Fin 16 → sProp 𝕄)
      = fun h => iprop(∃ f : Buf (Elt F) (b.view.loc (c : Thread nD τ)), b.view.loc (c : Thread nD τ) ↦[b.view.setOn (rRow h).set]{fullShare} f) := by
    funext h; unfold any; rw [row3_setOn]
  rw [e]
  exact ⟨any_cut c b (fun h => (rRow h).set) rRow_apart rRow_cover, any_join c b (fun h => (rRow h).set) rRow_apart rRow_cover⟩

end Rows

/-! ## Columns -/

theorem rCol_apart (i j : Fin 16) (h : i ≠ j) : Disjoint (rCol i).set (rCol j).set := by
  rw [Finset.disjoint_left]
  intro x hi hj
  rw [Rect.mem_set_unit] at hi hj
  have a := hi 2; have b := hj 2
  simp at a b
  exact h (Fin.ext (by omega))

theorem rCol_cover (x : S1x1024x16x128.Idx) : ∃ j, x ∈ (rCol j).set := by
  have h0 : (x 0).val < 1 := (x 0).isLt
  have h1 : (x 1).val < 1024 := (x 1).isLt
  have h2 : (x 2).val < 16 := (x 2).isLt
  have h3 : (x 3).val < 128 := (x 3).isLt
  refine ⟨⟨(x 2).val, h2⟩, ?_⟩
  rw [Rect.mem_set_unit]
  intro a
  fin_cases a
  · exact ⟨Nat.zero_le _, by show (x 0).val < 0 + 1; omega⟩
  · exact ⟨Nat.zero_le _, by show (x 1).val < 0 + 1024; omega⟩
  · exact ⟨Nat.le_refl _, Nat.lt_succ_self _⟩
  · exact ⟨Nat.zero_le _, by show (x 3).val < 0 + 128; omega⟩

section Cols
variable (c : Dev nD) {sp : Space} {e : EltTy} (b : Memref sig .tc sp S1x1024x16x128 e)

theorem col2_setOn (h : Fin 16) : (col2 b h).view.set = b.view.setOn (rCol h).set :=
  (View.set_reshape _ _).trans (View.set_slice _ _)

/-- An array held at `f` is its sixteen heads held at what `f` has there. -/
theorem pts_cols (q : PosShare TreeShare) (f : Buf (Elt F) (b.view.loc (c : Thread nD τ))) :
    (b.view.loc (c : Thread nD τ) ↦[b.view.set]{q} f : sProp 𝕄)
      = bigSep Finset.univ fun h => holds c (col2 b h) q ((col2 b h).view.read (Elt F) f) := by
  rw [pts_blocks c b (fun h => (rCol h).set) rCol_apart rCol_cover]
  refine bigSep_congr fun h _ => ?_
  rw [← holds_of c (col2 b h) q f rfl, col2_setOn]

theorem any_cols : (any c b : sProp 𝕄) ⊢ bigSep Finset.univ fun h => any c (col2 b h) := by
  have e : (fun h => any c (col2 b h) : Fin 16 → sProp 𝕄)
      = fun h => iprop(∃ f : Buf (Elt F) (b.view.loc (c : Thread nD τ)), b.view.loc (c : Thread nD τ) ↦[b.view.setOn (rCol h).set]{fullShare} f) := by
    funext h; unfold any; rw [col2_setOn]
  rw [e]
  exact any_cut c b (fun h => (rCol h).set) rCol_apart rCol_cover

end Cols

/-! ## Sums -/

theorem rSum_apart (i j : Fin 16 × Fin 2) (h : i ≠ j) : Disjoint (rSum i.1 i.2).set (rSum j.1 j.2).set := by
  rw [Finset.disjoint_left]
  intro x hi hj
  rw [Rect.mem_set_unit] at hi hj
  have a := hi 0; have b := hj 0
  simp at a b
  exact h (Prod.ext (Fin.ext (by omega)) (Fin.ext (by omega)))

theorem rSum_cover (x : S32x512.Idx) : ∃ j : Fin 16 × Fin 2, x ∈ (rSum j.1 j.2).set := by
  have h0 : (x 0).val < 32 := (x 0).isLt
  have h1 : (x 1).val < 512 := (x 1).isLt
  refine ⟨(⟨(x 0).val / 2, by omega⟩, ⟨(x 0).val % 2, by omega⟩), ?_⟩
  rw [Rect.mem_set_unit]
  intro a
  fin_cases a
  · constructor
    · show 2 * ((x 0).val / 2) + (x 0).val % 2 ≤ (x 0).val; omega
    · show (x 0).val < 2 * ((x 0).val / 2) + (x 0).val % 2 + 1; omega
  · exact ⟨Nat.zero_le _, by show (x 1).val < 0 + 512; omega⟩

section Sums
variable (c : Dev nD) {sp : Space} {e : EltTy} (b : Memref sig .tc sp S32x512 e)

theorem any_sums : (any c b : sProp 𝕄) ⊣⊢ bigSep Finset.univ fun h => iprop(any c (srow b h 0) ∗ any c (srow b h 1)) := by
  have e : (fun h : Fin 16 => iprop(any c (srow b h 0) ∗ any c (srow b h 1)) : Fin 16 → sProp 𝕄)
      = fun h => bigSep Finset.univ fun r : Fin 2 => any c (srow b h r) := by
    funext h; rw [bigSep_univ_eq_bigSepL [0, 1] (by decide) (by decide)]; rfl
  have e' : (fun j : Fin 16 × Fin 2 => any c (srow b j.1 j.2) : Fin 16 × Fin 2 → sProp 𝕄)
      = fun j => iprop(∃ f : Buf (Elt F) (b.view.loc (c : Thread nD τ)), b.view.loc (c : Thread nD τ) ↦[b.view.setOn (rSum j.1 j.2).set]{fullShare} f) := by
    funext j; unfold any; rw [show (srow b j.1 j.2).view.set = b.view.setOn (rSum j.1 j.2).set from View.set_slice _ _]
  rw [e, ← bigSep_univ_prod (fun j : Fin 16 × Fin 2 => (any c (srow b j.1 j.2) : sProp 𝕄)), e']
  exact ⟨any_cut c b (fun j : Fin 16 × Fin 2 => (rSum j.1 j.2).set) rSum_apart rSum_cover,
    any_join c b (fun j : Fin 16 × Fin 2 => (rSum j.1 j.2).set) rSum_apart rSum_cover⟩

end Sums

/-- A whole buffer at anything. -/
theorem any_whole (c : Dev nD) (r : Ref sig .tc) : (any c (Memref.whole r) : sProp 𝕄)
    = iprop(∃ f : Buf (Elt F) ((c : Thread nD τ).loc r), ((c : Thread nD τ).loc r) ↦{fullShare} f) := by
  unfold any; rw [show (Memref.whole r : Memref sig .tc _ _ _).view.set = Finset.univ from View.set_whole r]

end Cert.KernelIdeal.Att

end
-- ==== Proof.Body.lean ====
/- The kernel's body on one device, from what the launch deals it to what it gives back. -/
module

public import proofs.«01_k».proof.Proof.Segments
public import proofs.«01_k».proof.Proof.Buffers

@[expose] public section

set_option maxRecDepth 16384

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ) (K : Dev nD × Option (Fin 4 × Fin 16) → ℕ)

theorem all_startKV (c : Dev nD) (k : PUnit → Pg F PUnit) (Q : PUnit → sProp 𝕄) : iprop((bigSep Finset.univ fun h => before c h mK kst 0 (kCol m c h)) ∗ (bigSep Finset.univ fun h => before c h mV vst 1 (vCol m c h)))
    ⊢ iprop((((bigSep Finset.univ fun h => during c h mK kst 0 (kCol m c h)) ∗ (bigSep Finset.univ fun h => during c h mV vst 1 (vCol m c h)))
        -∗ runs c (k ⟨⟩) Q) -∗ runs c (runL startKV heads >>= k) Q) := by
  have H := wp_heads c startKV (fun h => iprop(before c h mK kst 0 (kCol m c h) ∗ before c h mV vst 1 (vCol m c h)))
    (fun h => iprop(during c h mK kst 0 (kCol m c h) ∗ during c h mV vst 1 (vCol m c h))) (fun _ => iprop(emp))
    (fun j l K => by
      iintro ⟨HT, -, Hk⟩
      iapply (wp_startKV m c j)
      isplitl [HT]; · iexact HT
      iintro HD
      iapply Hk
      isplitl; · iexact HD
      iempintro) k Q
  simp only [bigSep_sep'] at H
  iintro HT Hk
  iapply H $$ [HT]
  · isplitl; · iexact HT
    iempintro
  iintro ⟨HD, -⟩
  iapply Hk; iexact HD

theorem all_stage (c : Dev nD) (k : PUnit → Pg F PUnit) (Q : PUnit → sProp 𝕄) : iprop((((bigSep Finset.univ fun h => during c h mK kst 0 (kCol m c h)) ∗ (bigSep Finset.univ fun h => during c h mV vst 1 (vCol m c h)))
      ∗ (bigSep Finset.univ fun h => toSend c h kb ck 0 2) ∗ (bigSep Finset.univ fun h => toSend c h vb cv 1 3)) ∗ owing m K c (owedL c heads))
    ⊢ iprop((((((bigSep Finset.univ fun h => before c h mK kst 0 (kCol m c h)) ∗ (bigSep Finset.univ fun h => before c h mV vst 1 (vCol m c h)))
          ∗ (bigSep Finset.univ fun h => sent c h kb 0 (kRow m c h)) ∗ (bigSep Finset.univ fun h => sent c h vb 1 (vRow m c h))) ∗ owing m K c 0)
        -∗ runs c (k ⟨⟩) Q) -∗ runs c (runL (stage (tgt c)) heads >>= k) Q) := by
  have H := wp_heads c (stage (tgt c)) (fun h => iprop((during c h mK kst 0 (kCol m c h) ∗ during c h mV vst 1 (vCol m c h)) ∗ toSend c h kb ck 0 2 ∗ toSend c h vb cv 1 3))
    (fun h => iprop((before c h mK kst 0 (kCol m c h) ∗ before c h mV vst 1 (vCol m c h)) ∗ sent c h kb 0 (kRow m c h) ∗ sent c h vb 1 (vRow m c h)))
    (fun l => owing m K c (owedL c l)) (fun j l Q => wp_stage m K c j l Q) k Q
  simp only [bigSep_sep'] at H
  exact H

theorem all_fetchQ (c : Dev nD) (k : PUnit → Pg F PUnit) (Q : PUnit → sProp 𝕄) : (bigSep Finset.univ fun h => before c h mQ qst 2 (qCol m c h))
    ⊢ iprop(((bigSep Finset.univ fun h => during c h mQ qst 2 (qCol m c h)) -∗ runs c (k ⟨⟩) Q) -∗ runs c (runL (fetch mQ qst cc0_scratch12) heads >>= k) Q) := by
  have H := wp_heads c (fetch mQ qst cc0_scratch12) (fun h => before c h mQ qst 2 (qCol m c h))
    (fun h => during c h mQ qst 2 (qCol m c h)) (fun _ => iprop(emp))
    (fun j l K => by
      iintro ⟨HT, -, Hk⟩
      iapply (wp_fetch' c j mQ qst 2 (qCol m c j))
      isplitl [HT]; · iexact HT
      iintro HD
      iapply Hk
      isplitl; · iexact HD
      iempintro) k Q
  iintro HT Hk
  iapply H $$ [HT]
  · isplitl; · iexact HT
    iempintro
  iintro ⟨HD, -⟩
  iapply Hk; iexact HD

theorem all_stageQ (c : Dev nD) (k : PUnit → Pg F PUnit) (Q : PUnit → sProp 𝕄) : iprop(((bigSep Finset.univ fun h => during c h mQ qst 2 (qCol m c h)) ∗ (bigSep Finset.univ fun h => any c (row3 qb h))) ∗ owing m K c 0)
    ⊢ iprop(((((bigSep Finset.univ fun h => before c h mQ qst 2 (qCol m c h)) ∗ (bigSep Finset.univ fun h => holds c (row3 qb h) fullShare (qRow m c h))) ∗ owing m K c 0)
        -∗ runs c (k ⟨⟩) Q) -∗ runs c (runL stageQ heads >>= k) Q) := by
  have H := wp_heads c stageQ (fun h => iprop(during c h mQ qst 2 (qCol m c h) ∗ any c (row3 qb h)))
    (fun h => iprop(before c h mQ qst 2 (qCol m c h) ∗ holds c (row3 qb h) fullShare (qRow m c h))) (fun _ => owing m K c 0)
    (fun j l Q => wp_stageQ m K c j Q) k Q
  simp only [bigSep_sep'] at H
  exact H

theorem all_trips (c : Dev nD) (k : PUnit → Pg F PUnit) (Q : PUnit → sProp 𝕄) : iprop((bigSep Finset.univ fun h => holds c (row3 qb h) fullShare (qRow m c h)) ∗ (bigSep Finset.univ fun h => holds c (row3 kb h) fullShare.left (kRow m c h))
      ∗ (bigSep Finset.univ fun h => holds c (row3 vb h) fullShare.left (vRow m c h)) ∗ (bigSep Finset.univ fun h => any c (row3 ov h))
      ∗ (bigSep Finset.univ fun h => any c (srow ls h 0)) ∗ (bigSep Finset.univ fun h => any c (srow ls h 1)))
    ⊢ iprop((((bigSep Finset.univ fun h => holds c (row3 qb h) fullShare (qRow m c h)) ∗ (bigSep Finset.univ fun h => holds c (row3 kb h) fullShare.left (kRow m c h))
      ∗ (bigSep Finset.univ fun h => holds c (row3 vb h) fullShare.left (vRow m c h)) ∗ (bigSep Finset.univ fun h => own m c h 0) ∗ (bigSep Finset.univ fun h => own m c h 1))
        -∗ runs c (k ⟨⟩) Q) -∗ runs c (runL tripHead heads >>= k) Q) := by
  have H := wp_heads c tripHead (fun h => iprop(holds c (row3 qb h) fullShare (qRow m c h) ∗ holds c (row3 kb h) fullShare.left (kRow m c h)
          ∗ holds c (row3 vb h) fullShare.left (vRow m c h) ∗ any c (row3 ov h) ∗ any c (srow ls h 0) ∗ any c (srow ls h 1)))
    (fun h => iprop(holds c (row3 qb h) fullShare (qRow m c h) ∗ holds c (row3 kb h) fullShare.left (kRow m c h)
            ∗ holds c (row3 vb h) fullShare.left (vRow m c h) ∗ own m c h 0 ∗ own m c h 1)) (fun _ => iprop(emp))
    (fun j l K => by
      iintro ⟨HT, -, Hk⟩
      iapply (wp_tripHead m c j)
      isplitl [HT]; · iexact HT
      iintro HD
      iapply Hk
      isplitl; · iexact HD
      iempintro) k Q
  simp only [bigSep_sep'] at H
  iintro HT Hk
  iapply H $$ [HT]
  · isplitl; · iexact HT
    iempintro
  iintro ⟨HD, -⟩
  iapply Hk; iexact HD

theorem all_finish (c : Dev nD) (k : PUnit → Pg F PUnit) (Q : PUnit → sProp 𝕄) : iprop(((bigSep Finset.univ fun h => holds c (row3 qb h) fullShare (qRow m c h)) ∗ (bigSep Finset.univ fun h => awaited c h 2)
      ∗ (bigSep Finset.univ fun h => awaited c h 3) ∗ (bigSep Finset.univ fun h => own m c h 0) ∗ (bigSep Finset.univ fun h => own m c h 1)
      ∗ (bigSep Finset.univ fun h => any c (col2 mO h)) ∗ (bigSep Finset.univ fun h => semVal ((c : Thread nD τ), lsem (3, h)) 0)) ∗ owing m K c 0)
    ⊢ iprop(((((bigSep Finset.univ fun h => holds c (row3 qb h) fullShare (qRow m c h)) ∗ (bigSep Finset.univ fun h => arrived m c h 2)
      ∗ (bigSep Finset.univ fun h => arrived m c h 3) ∗ (bigSep Finset.univ fun h => holds c (srow ls h 0) fullShare (ownL m c h 0))
      ∗ (bigSep Finset.univ fun h => holds c (srow ls h 1) fullShare (ownL m c h 1)) ∗ (bigSep Finset.univ fun h => putting m c h)) ∗ owing m K c 0)
        -∗ runs c (k ⟨⟩) Q) -∗ runs c (runL finish heads >>= k) Q) := by
  have H := wp_heads c finish (fun h => iprop(holds c (row3 qb h) fullShare (qRow m c h) ∗ awaited c h 2 ∗ awaited c h 3 ∗ own m c h 0 ∗ own m c h 1
          ∗ any c (col2 mO h) ∗ semVal ((c : Thread nD τ), lsem (3, h)) 0))
    (fun h => iprop(holds c (row3 qb h) fullShare (qRow m c h) ∗ arrived m c h 2 ∗ arrived m c h 3
            ∗ holds c (srow ls h 0) fullShare (ownL m c h 0) ∗ holds c (srow ls h 1) fullShare (ownL m c h 1) ∗ putting m c h)) (fun _ => owing m K c 0)
    (fun j l Q => wp_finish m K c j Q) k Q
  simp only [bigSep_sep'] at H
  exact H

theorem all_waitOut (c : Dev nD) (k : PUnit → Pg F PUnit) (Q : PUnit → sProp 𝕄) : iprop((bigSep Finset.univ fun h => putting m c h) ∗ owing m K c 0)
    ⊢ iprop(((((bigSep Finset.univ fun h => holds c (col2 mO h) fullShare (outCol m c h)) ∗ (bigSep Finset.univ fun h => any c (row3 ov h))
        ∗ (bigSep Finset.univ fun h => semVal ((c : Thread nD τ), lsem (3, h)) 0)) ∗ owing m K c 0)
        -∗ runs c (k ⟨⟩) Q) -∗ runs c (runL waitOut heads >>= k) Q) := by
  have H := wp_heads c waitOut (fun h => putting m c h)
    (fun h => iprop(holds c (col2 mO h) fullShare (outCol m c h) ∗ any c (row3 ov h) ∗ semVal ((c : Thread nD τ), lsem (3, h)) 0)) (fun _ => owing m K c 0)
    (fun j l Q => wp_waitOut m K c j Q) k Q
  simp only [bigSep_sep'] at H
  exact H

theorem all_waitSend (c : Dev nD) (Q : PUnit → sProp 𝕄) : iprop(((bigSep Finset.univ fun h => awaited c h 0) ∗ (bigSep Finset.univ fun h => awaited c h 1)) ∗ owing m K c 0)
    ⊢ iprop(((((bigSep Finset.univ fun h => arrived m c h 0) ∗ (bigSep Finset.univ fun h => arrived m c h 1)) ∗ owing m K c 0) -∗ Q ⟨⟩)
        -∗ runs c (runL waitSend heads) Q) := by
  have H := wp_heads_last c waitSend (fun h => iprop(awaited c h 0 ∗ awaited c h 1)) (fun h => iprop(arrived m c h 0 ∗ arrived m c h 1)) (fun _ => owing m K c 0)
    (fun j l Q => wp_waitSend m K c j Q) Q
  simp only [bigSep_sep'] at H
  exact H

/-! ## The whole body -/

/-- A family over the heads, at anything. -/
def anyRows (c : Dev nD) {sp : Space} {e : EltTy} (b : Memref sig .tc sp S16x1024x128 e) : sProp 𝕄 := bigSep Finset.univ fun h => any c (row3 b h)

/-- The semaphores of array `j` at zero. -/
def zeros (c : Dev nD) (j : Fin 4) : sProp 𝕄 := bigSep Finset.univ fun h => semVal (xcell c j h) 0
/-- The positions of array `j`'s semaphores. -/
def ats (c : Dev nD) (j : Fin 4) : sProp 𝕄 := bigSep Finset.univ fun h => atPos ER (xcell c j h) 0 ∅ 0
/-- The credits of array `j`'s semaphores. -/
def creds (c : Dev nD) (j : Fin 4) : sProp 𝕄 := bigSep Finset.univ fun h => cred (tallyAt (xcell c j h) () N)
/-- The tokens of array `j`'s payments. -/
def toks (c : Dev nD) (j : Fin 4) : sProp 𝕄 := bigSep Finset.univ fun h => dutyTok ER (xcell c j h) 0 ()

/-- The three arguments' heads with their staging rows and semaphores. -/
def args (c : Dev nD) : sProp 𝕄 :=
  iprop((bigSep Finset.univ fun h => before c h mK kst 0 (kCol m c h)) ∗ (bigSep Finset.univ fun h => before c h mV vst 1 (vCol m c h))
    ∗ (bigSep Finset.univ fun h => before c h mQ qst 2 (qCol m c h)))

/-- The scratch rows. -/
def scratch (c : Dev nD) : sProp 𝕄 :=
  iprop(anyRows c kb ∗ anyRows c vb ∗ anyRows c qb ∗ anyRows c ck ∗ anyRows c cv ∗ anyRows c ov
    ∗ (bigSep Finset.univ fun h => any c (srow ls h 0)) ∗ (bigSep Finset.univ fun h => any c (srow ls h 1)))

/-- The exchange's part: positions, credits and tokens. -/
def part (c : Dev nD) : sProp 𝕄 :=
  iprop(dutyTok ER (barCell (tgt c)) 0 () ∗ cred (tallyAt (barCell c) () 1) ∗ atPos ER (barCell c) 0 ∅ 0
    ∗ (toks c 0 ∗ toks c 1 ∗ toks (tgt c) 2 ∗ toks (tgt c) 3) ∗ (creds c 2 ∗ creds c 3) ∗ ats c 0 ∗ ats c 1 ∗ ats c 2 ∗ ats c 3)

def bodyPre (c : Dev nD) : sProp 𝕄 :=
  iprop(owing m K c (O₀ c) ∗ part c ∗ args m c ∗ scratch c ∗ (bigSep Finset.univ fun h => any c (col2 mO h))
    ∗ bigSep Finset.univ fun h => semVal ((c : Thread nD τ), lsem (3, h)) 0)

def bodyPost (c : Dev nD) : sProp 𝕄 :=
  iprop(owe c 0 ∗ (semVal (barCell c) 0 ∗ zeros c 0 ∗ zeros c 1 ∗ zeros c 2 ∗ zeros c 3) ∗ args m c ∗ scratch c
    ∗ (bigSep Finset.univ fun h => holds c (col2 mO h) fullShare (outCol m c h)) ∗ bigSep Finset.univ fun h => semVal ((c : Thread nD τ), lsem (3, h)) 0)

/-- Rows held are rows at anything. -/
theorem anyRows_of (c : Dev nD) {sp : Space} {e : EltTy} (b : Memref sig .tc sp S16x1024x128 e) (X : Fin 16 → S1x1024x128.Idx → Elt F e) :
    (bigSep Finset.univ fun h => holds c (row3 b h) fullShare (X h)) ⊢ (anyRows c b : sProp 𝕄) := by
  unfold anyRows; exact bigSep_mono fun h _ => any_of_holds c (row3 b h) (X h)

theorem anySums_of (c : Dev nD) (r : Fin 2) (X : Fin 16 → S1x512.Idx → Elt F .f32) :
    (bigSep Finset.univ fun h => holds c (srow ls h r) fullShare (X h)) ⊢ (bigSep Finset.univ fun h => any c (srow ls h r) : sProp 𝕄) :=
  bigSep_mono fun h _ => any_of_holds c (srow ls h r) (X h)

theorem awaited_of (c : Dev nD) (j : Fin 4) : iprop(creds c j ∗ ats c j) ⊢ (bigSep Finset.univ fun h => awaited c h j : sProp 𝕄) := by
  unfold creds ats awaited; rw [bigSep_sep']

theorem arrived_to (c : Dev nD) (j : Fin 4) :
    (bigSep Finset.univ fun h => arrived m c h j) ⊢ iprop((bigSep Finset.univ fun h => pay m c (some (j, h))) ∗ zeros c j) := by
  unfold arrived zeros; rw [bigSep_sep']

/-- The two halves of a sent row back together. -/
theorem whole_of (c : Dev nD) (b : Memref sig .tc .vmem S16x1024x128 .bf16) (X : Fin 16 → Vec F S1x1024x128 .bf16) :
    iprop((bigSep Finset.univ fun h => holds c (row3 b h) fullShare.left (X h)) ∗ (bigSep Finset.univ fun h => holds c (row3 b h) fullShare.right (X h)))
      ⊢ (anyRows c b : sProp 𝕄) := by
  rw [← bigSep_sep']
  exact (bigSep_mono fun h _ => (holds_halves c (row3 b h) (X h)).2).trans (anyRows_of c b X)

theorem toSend_of (c : Dev nD) (b b' : Memref sig .tc .vmem S16x1024x128 .bf16) (j j' : Fin 4) :
    iprop(anyRows c b ∗ anyRows (tgt c) b' ∗ toks c j ∗ toks (tgt c) j') ⊢ (bigSep Finset.univ fun h => toSend c h b b' j j' : sProp 𝕄) := by
  unfold anyRows toks toSend; simp only [bigSep_sep']; exact .rfl

theorem sent_to (c : Dev nD) (b : Memref sig .tc .vmem S16x1024x128 .bf16) (j : Fin 4) (X : Fin 16 → Vec F S1x1024x128 .bf16) :
    (bigSep Finset.univ fun h => sent c h b j (X h))
      ⊢ (iprop((bigSep Finset.univ fun h => holds c (row3 b h) fullShare.left (X h)) ∗ creds c j) : sProp 𝕄) := by
  unfold sent creds; rw [bigSep_sep']

/-- What the peer's barrier is paid: this device's landing rows. -/
theorem barPay_of (c : Dev nD) : iprop(anyRows c ck ∗ anyRows c cv) ⊢ (Rd m).payload (tgt c, SemLoc.reg barS) 0 () := by
  rw [show (Rd m).payload (tgt c, SemLoc.reg barS) 0 () = barPay (tgt c) from payload_cell m (tgt c) none ()]
  unfold barPay anyRows
  rw [tgt_tgt, bigSep_sep']

set_option maxHeartbeats 1000000 in
/-- The body, from `bodyPre` to `bodyPost`. -/
theorem sound_body (c : Dev nD) (Q : PUnit → sProp 𝕄) : iprop(bodyPre m K c ∗ (bodyPost m c -∗ Q ⟨⟩)) ⊢ runs c body Q := by
  unfold body
  rw [loop_eq]
  simp only [semSignalWord, semWaitWord, Prog.lift, Prog.bind_op, Prog.bind_ret, Prog.pure_eq_ret]
  rw [show runs c _ Q = _ from wp_deviceId ..]
  unfold bodyPre part args scratch
  iintro ⟨⟨HO, ⟨HtB, HcB, HaB, ⟨Ht0, Ht1, Ht2, Ht3⟩, ⟨Hc2, Hc3⟩, Ha0, Ha1, Ha2, Ha3⟩, ⟨HbK, HbV, HbQ⟩,
    ⟨Hkb, Hvb, Hqb, Hck, Hcv, Hov, Hs0, Hs1⟩, HmO, Hz3⟩, Hk⟩
  unfold owing owe
  icases HO with ⟨#Hf, ⟨%W, HO⟩⟩
  ihave #HiN := (facts_inv m K (tgt c) none) $$ Hf
  ihave #Hi := (facts_inv m K c none) $$ Hf
  ihave #HrN := (facts_reached m K (tgt c) none) $$ Hf
  iapply (Rounds.wp_signal 𝒱₀ ER (Rd m) (c : Thread nD τ) none (dst := (tgt c : Thread nD τ)) (κ := K (tgt c, none)) (d := ())
      (mem_duties m (tgt c) none) ((amount_bar m (tgt c) ()).trans (by decide)) () (owedL c heads) rfl) $$ [HO HtB Hck Hcv]
  · isplitr; · iexact HiN
    isplitl [HO]; · iexact HO
    isplitl [HtB]; · iexact HtB
    isplitl [Hck Hcv]
    · iapply (barPay_of m c)
      isplitl [Hck]; · iexact Hck
      iexact Hcv
    · iexact HrN
  iintro HO
  iapply (Rounds.wp_wait_rest_token 𝒱₀ ER (Rd m) (c : Thread nD τ) none (sm := csem none) (κ := K (c, none))
      (wpE_semWait_eq 𝒱₀ (c : Thread nD τ) none Set.univ) (Set.mem_univ _) () (O := owedL c heads) (W := W) (R := 0) (m := 0) (T := ∅)
      (by rw [expect_bar]; decide)) $$ [HcB HO HaB]
  · isplitr; · iexact Hi
    isplitl [HcB]; · iexact HcB
    isplitl [HO]; · iexact HO
    isplitr
    · iapply (mayWait_low c (csem none) (by rw [lv_bar]) (arrivals_owedL c heads))
      iapply (facts_lev m K); iexact Hf
    iexact HaB
  iintro ⟨HO, HaB, -, Hpay⟩
  ihave Hp := (Entails.of_eq (rest_cell m c none)) $$ Hpay
  ihave Hp := (show pay m c none ⊢ iprop(anyRows (tgt c) ck ∗ anyRows (tgt c) cv) from by
    show barPay c ⊢ _; unfold barPay anyRows; rw [bigSep_sep']) $$ Hp
  icases Hp with ⟨Hck, Hcv⟩
  imod (Rounds.cell_close ER (Rd m) (Set.mem_univ (K (c, none))) (fun h => h) (R := 0 + 1) (duties_later m (barCell c))) $$ [HaB] with HzB
  · isplitr; · iexact Hi
    iexact HaB
  ihave HO := (show owes (c : Thread nD τ) (owedL c heads) _ ⊢ owe c (owedL c heads) from by
    unfold owe; iintro H; iexists _; iexact H) $$ HO
  iapply (all_startKV m c) $$ [HbK HbV]
  · isplitl [HbK]; · iexact HbK
    iexact HbV
  iintro ⟨HbK, HbV⟩
  ihave HsK := (toSend_of c kb ck 0 2) $$ [Hkb Hck Ht0 Ht2]
  · isplitl [Hkb]; · iexact Hkb
    isplitl [Hck]; · iexact Hck
    isplitl [Ht0]; · iexact Ht0
    iexact Ht2
  ihave HsV := (toSend_of c vb cv 1 3) $$ [Hvb Hcv Ht1 Ht3]
  · isplitl [Hvb]; · iexact Hvb
    isplitl [Hcv]; · iexact Hcv
    isplitl [Ht1]; · iexact Ht1
    iexact Ht3
  iapply (all_stage m K c) $$ [HbK HbV HsK HsV HO]
  · isplitr [HO]
    · isplitl [HbK HbV]
      · isplitl [HbK]; · iexact HbK
        iexact HbV
      isplitl [HsK]; · iexact HsK
      iexact HsV
    unfold owing
    isplitr; · iexact Hf
    iexact HO
  iintro ⟨⟨⟨HbK, HbV⟩, HsK, HsV⟩, HO⟩
  ihave HsK := (sent_to c kb 0 (kRow m c)) $$ HsK
  icases HsK with ⟨Hkb, Hc0⟩
  ihave HsV := (sent_to c vb 1 (vRow m c)) $$ HsV
  icases HsV with ⟨Hvb, Hc1⟩
  iapply (all_fetchQ m c) $$ HbQ
  iintro HbQ
  iapply (all_stageQ m K c) $$ [HbQ Hqb HO]
  · isplitr [HO]
    · isplitl [HbQ]; · iexact HbQ
      unfold anyRows; iexact Hqb
    iexact HO
  iintro ⟨⟨HbQ, Hqb⟩, HO⟩
  iapply (all_trips m c) $$ [Hqb Hkb Hvb Hov Hs0 Hs1]
  · isplitl [Hqb]; · iexact Hqb
    isplitl [Hkb]; · iexact Hkb
    isplitl [Hvb]; · iexact Hvb
    isplitl [Hov]; · unfold anyRows; iexact Hov
    isplitl [Hs0]; · iexact Hs0
    iexact Hs1
  iintro ⟨Hqb, Hkb, Hvb, Ho0, Ho1⟩
  ihave Hw2 := (awaited_of c 2) $$ [Hc2 Ha2]
  · isplitl [Hc2]; · iexact Hc2
    iexact Ha2
  ihave Hw3 := (awaited_of c 3) $$ [Hc3 Ha3]
  · isplitl [Hc3]; · iexact Hc3
    iexact Ha3
  iapply (all_finish m K c) $$ [Hqb Hw2 Hw3 Ho0 Ho1 HmO Hz3 HO]
  · isplitr [HO]
    · isplitl [Hqb]; · iexact Hqb
      isplitl [Hw2]; · iexact Hw2
      isplitl [Hw3]; · iexact Hw3
      isplitl [Ho0]; · iexact Ho0
      isplitl [Ho1]; · iexact Ho1
      isplitl [HmO]; · iexact HmO
      iexact Hz3
    iexact HO
  iintro ⟨⟨Hqb, Hw2, Hw3, Hs0, Hs1, Hput⟩, HO⟩
  iapply (all_waitOut m K c) $$ [Hput HO]
  · isplitl [Hput]; · iexact Hput
    iexact HO
  iintro ⟨⟨HmO, Hov, Hz3⟩, HO⟩
  ihave Hw0 := (awaited_of c 0) $$ [Hc0 Ha0]
  · isplitl [Hc0]; · iexact Hc0
    iexact Ha0
  ihave Hw1 := (awaited_of c 1) $$ [Hc1 Ha1]
  · isplitl [Hc1]; · iexact Hc1
    iexact Ha1
  iapply (all_waitSend m K c) $$ [Hw0 Hw1 HO]
  · isplitr [HO]
    · isplitl [Hw0]; · iexact Hw0
      iexact Hw1
    iexact HO
  iintro ⟨⟨Hw0, Hw1⟩, HO⟩
  ihave Hw0 := (arrived_to m c 0) $$ Hw0
  ihave Hw1 := (arrived_to m c 1) $$ Hw1
  ihave Hw2 := (arrived_to m c 2) $$ Hw2
  ihave Hw3 := (arrived_to m c 3) $$ Hw3
  icases Hw0 with ⟨Hkr, Hx0⟩
  icases Hw1 with ⟨Hvr, Hx1⟩
  icases Hw2 with ⟨Hck, Hx2⟩
  icases Hw3 with ⟨Hcv, Hx3⟩
  iapply Hk
  unfold bodyPost args scratch
  isplitl [HO]
  · unfold owing; icases HO with ⟨-, HO⟩; iexact HO
  isplitl [HzB Hx0 Hx1 Hx2 Hx3]
  · isplitl [HzB]; · iexact HzB
    isplitl [Hx0]; · iexact Hx0
    isplitl [Hx1]; · iexact Hx1
    isplitl [Hx2]; · iexact Hx2
    iexact Hx3
  isplitl [HbK HbV HbQ]
  · isplitl [HbK]; · iexact HbK
    isplitl [HbV]; · iexact HbV
    iexact HbQ
  isplitr [HmO Hz3]
  · isplitl [Hkb Hkr]
    · iapply (whole_of c kb (kRow m c))
      isplitl [Hkb]; · iexact Hkb
      iexact Hkr
    isplitl [Hvb Hvr]
    · iapply (whole_of c vb (vRow m c))
      isplitl [Hvb]; · iexact Hvb
      iexact Hvr
    isplitl [Hqb]; · iapply (anyRows_of c qb (qRow m c)); iexact Hqb
    isplitl [Hck]; · iapply (anyRows_of c ck (kRow m (tgt c))); iexact Hck
    isplitl [Hcv]; · iapply (anyRows_of c cv (vRow m (tgt c))); iexact Hcv
    isplitl [Hov]; · unfold anyRows; iexact Hov
    isplitl [Hs0]; · iapply (anySums_of c 0 fun h => ownL m c h 0); iexact Hs0
    iapply (anySums_of c 1 fun h => ownL m c h 1); iexact Hs1
  isplitl [HmO]; · iexact HmO
  iexact Hz3

end Cert.KernelIdeal.Att

end
-- ==== Proof.Ghost.lean ====
/- What the launch deals: the exchange's invariants, tokens and credits. -/
module

public import proofs.«01_k».proof.Proof.Body
public import proofs.«01_k».proof.Proof.Gen.KernelIdeal.Launch

@[expose] public section

set_option maxRecDepth 16384

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ)

/-- The exchange's semaphores of a device. -/
abbrev XI := Option (Fin 4 × Fin 16)

/-! ## Families over four arrays -/

theorem four_arrays (Φ : Fin 4 × Fin 16 → sProp 𝕄) : bigSep Finset.univ Φ
    = iprop((bigSep Finset.univ fun h => Φ (0, h)) ∗ (bigSep Finset.univ fun h => Φ (1, h)) ∗ (bigSep Finset.univ fun h => Φ (2, h))
        ∗ (bigSep Finset.univ fun h => Φ (3, h))) := by
  rw [bigSep_univ_prod]
  exact bigSep_univ_eq_bigSepL [0, 1, 2, 3] (by decide) (by decide) _

theorem with_bar (Φ : XI → sProp 𝕄) : bigSep Finset.univ Φ = iprop(Φ none ∗ bigSep Finset.univ fun p => Φ (some p)) := by
  rw [bigSep_univ_equiv (Equiv.optionEquivSumPUnit.{0, 0} (Fin 4 × Fin 16)).symm, bigSep_univ_sum, bigSep_univ_of_subsingleton PUnit.unit, equiv_iff.mp ⟨BI.sep_comm, BI.sep_comm⟩]
  rfl

/-- Something persistent handed to every member of a family. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

/-! ## The launch's ghost element -/

theorem cell_injective : Function.Injective (fun p : Dev nD × XI => kcell p.1 p.2) := by
  rintro ⟨c, i⟩ ⟨c', i'⟩ h
  obtain ⟨rfl, rfl⟩ := kcell_inj h
  rfl

def cells : Finset (GSem nD τ sig) := Finset.univ.map ⟨fun p : Dev nD × XI => kcell p.1 p.2, cell_injective⟩
def duties : Finset (GSem nD τ sig × ℕ × Unit) :=
  Finset.univ.map ⟨fun p : Dev nD × XI => (kcell p.1 p.2, 0, ()), fun _ _ h => cell_injective (congrArg Prod.fst h)⟩

def u₀ : UU := (initOf (Pipeline.cells cfgs cellOf_inj) (Pipeline.launchToks cfgs cellOf_inj), (initOf cells duties, 1))

/-- What the launch's element gives device `c`. -/
def G (c : Dev nD) : sProp 𝕄 :=
  iprop((bigSep Finset.univ fun i : XI => roundState ER (Rd m) (kcell c i) 0) ∗ (bigSep Finset.univ fun i : XI => reached ER (kcell c i) 0)
    ∗ (bigSep Finset.univ fun i : XI => atPos ER (kcell c i) 0 ∅ 0) ∗ bigSep Finset.univ fun i : XI => dutyTok ER (kcell c i) 0 ())

theorem fund_all : BI.own (ER (initOf cells duties)) ⊢ (|==> bigSep Finset.univ (G m) : sProp 𝕄) := by
  have hc (Φ : GSem nD τ sig → sProp 𝕄) : bigSep cells Φ = bigSep Finset.univ fun c : Dev nD => bigSep Finset.univ fun i : XI => Φ (kcell c i) := by
    unfold cells; rw [bigSep_map, bigSep_univ_prod]; rfl
  have hd : bigSep duties (fun x => (dutyTok ER x.1 x.2.1 x.2.2 : sProp 𝕄)) = bigSep Finset.univ fun c : Dev nD => bigSep Finset.univ fun i : XI => dutyTok ER (kcell c i) 0 () := by
    unfold duties; rw [bigSep_map, bigSep_univ_prod]; rfl
  refine (Rounds.fund ER (Rd m) cells duties).trans (BI.bupd_mono ?_)
  rw [hc, hc, hc, hd]
  unfold G; simp only [bigSep_sep']
  exact BI.Entails.refl _

/-! ## Semaphores at launch -/

/-- The kernel's own semaphores: the local transfers', and the exchange's arrays'. -/
def osem : (Fin 4 × Fin 16) ⊕ (Fin 4 × Fin 16) → SemLoc sig := Sum.elim lsem (fun p => csem (some p))

theorem ownSemFacts : Pipeline.OwnSemFacts cfg0.spec osem where
  isScoped := by decide +kernel
  inj := by
    rintro (p | p) (p' | p') h
    · exact congrArg _ (lsem_injective h)
    · exact absurd h (lsem_ne_csem p (some p'))
    · exact absurd h.symm (lsem_ne_csem p' (some p))
    · exact congrArg _ (Option.some.inj (csem_injective h))
  disj := fun _ w => w.elim0

/-- The local semaphores at zero. -/
def lzeros (c : Dev nD) : sProp 𝕄 := bigSep Finset.univ fun p : Fin 4 × Fin 16 => semVal ((c : Thread nD τ), lsem p) 0

theorem ownSems0_eq (c : Dev nD) : (Pipeline.ownSems0 (Ix := Unit) (Name := ℕ) (U := UU) (Lvl := ℕ) (Val := Elt F) (τ := τ) osem c : sProp 𝕄)
    = iprop(lzeros c ∗ bigSep Finset.univ fun p : Fin 4 × Fin 16 => semVal (kcell c (some p)) 0) := by
  unfold Pipeline.ownSems0; rw [bigSep_univ_sum]; rfl
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems_all (c : Dev nD) :
    iprop(Pipeline.ownSems0 (Ix := Unit) (Name := ℕ) (U := UU) (Lvl := ℕ) (Val := Elt F) (τ := τ) osem c ∗ unscopedSems0 c)
      ⊢ (iprop(lzeros c ∗ bigSep Finset.univ fun i : XI => semVal (kcell c i) 0) : sProp 𝕄) := by
  rw [ownSems0_eq, unscopedSems0_eq, with_bar]
  iintro ⟨⟨Hl, Hx⟩, Hb⟩
  isplitl [Hl]; · iexact Hl
  isplitl [Hb] <;> iassumption

/-- Device `c`'s invariants opened for business. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i => iprop(∃ κ : ℕ, cellInv ER (Rd m) κ (kcell c i))) ∗ (bigSep Finset.univ fun i : XI => reached ER (kcell c i) 0)
          ∗ (bigSep Finset.univ fun i : XI => atPos ER (kcell c i) 0 ∅ 0) ∗ (bigSep Finset.univ fun i : XI => dutyTok ER (kcell c i) 0 ()) ∗ lzeros c) := by
  have hinv : iprop((bigSep Finset.univ fun i : XI => semVal (kcell c i) 0) ∗ bigSep Finset.univ fun i : XI => roundState ER (Rd m) (kcell c i) 0)
      ⊢ (|={Set.univ}=> bigSep Finset.univ fun i => iprop(∃ κ : ℕ, cellInv ER (Rd m) κ (kcell c i)) : sProp 𝕄) := by
    rw [← bigSep_sep']
    exact (bigSep_mono fun i _ => (Rounds.body_intro ER (Rd m) (kcell c i)).trans inv_alloc).trans (bigSep_fupd _ _)
  unfold G
  iintro ⟨Hos, Hus, Hst, Hr, Hat, Htok⟩
  ihave Hv := (sems_all (F := F) c) $$ [Hos Hus]
  · isplitl [Hos] <;> iassumption
  icases Hv with ⟨Hl, Hv⟩
  imod hinv $$ [Hv Hst] with Hinv
  · isplitl [Hv] <;> iassumption
  imodintro
  isplitl [Hinv]; · iexact Hinv
  isplitl [Hr]; · iexact Hr
  isplitl [Hat]; · iexact Hat
  isplitl [Htok]; · iexact Htok
  iexact Hl

/-- What every device knows of every cell. -/
def records (K : Dev nD × XI → ℕ) : sProp 𝕄 :=
  iprop((bigSep Finset.univ fun p : Dev nD × XI => cellInv ER (Rd m) (K p) (kcell p.1 p.2)) ∗ bigSep Finset.univ fun p : Dev nD × XI => reached ER (kcell p.1 p.2) 0)
instance records_persistent (K : Dev nD × XI → ℕ) : BI.Persistent (records m K) := by unfold records; infer_instance

/-- The tokens device `c` pays with. -/
def pays (c : Dev nD) : sProp 𝕄 := iprop(dutyTok ER (barCell (tgt c)) 0 () ∗ toks c 0 ∗ toks c 1 ∗ toks (tgt c) 2 ∗ toks (tgt c) 3)
/-- Device `c`'s positions. -/
def places (c : Dev nD) : sProp 𝕄 := iprop(atPos ER (barCell c) 0 ∅ 0 ∗ ats c 0 ∗ ats c 1 ∗ ats c 2 ∗ ats c 3)

/-- What the launch's step gives device `c`. -/
def G' (c : Dev nD) : sProp 𝕄 := iprop(∃ K, records m K ∗ places c ∗ pays c ∗ lzeros c)

theorem places_of (c : Dev nD) : (bigSep Finset.univ fun i : XI => atPos ER (kcell c i) 0 ∅ 0) ⊢ (places c : sProp 𝕄) := by
  rw [with_bar, four_arrays]; unfold places ats; exact BI.Entails.refl _

/-- The tokens of the barrier and of the arrivals change hands within each pair. -/
theorem pays_of : (bigSep Finset.univ fun c : Dev nD => bigSep Finset.univ fun i : XI => dutyTok ER (kcell c i) 0 ()) ⊢ (bigSep Finset.univ fun c : Dev nD => pays c : sProp 𝕄) := by
  have e : ∀ c : Dev nD, (bigSep Finset.univ fun i : XI => dutyTok ER (kcell c i) 0 ())
      = (iprop(dutyTok ER (barCell c) 0 () ∗ toks c 0 ∗ toks c 1 ∗ toks c 2 ∗ toks c 3) : sProp 𝕄) := fun c => by
    rw [with_bar, four_arrays]; unfold toks; rfl
  rw [bigSep_congr fun c _ => e c]
  unfold pays; simp only [bigSep_sep']
  rw [bigSep_univ_equiv swap (fun c : Dev nD => (dutyTok ER (barCell c) 0 () : sProp 𝕄)), bigSep_univ_equiv swap (fun c : Dev nD => (toks c 2 : sProp 𝕄)),
    bigSep_univ_equiv swap (fun c : Dev nD => (toks c 3 : sProp 𝕄))]
  exact BI.Entails.refl _

theorem regroup :
    (bigSep Finset.univ fun c : Dev nD => iprop((bigSep Finset.univ fun i => iprop(∃ κ : ℕ, cellInv ER (Rd m) κ (kcell c i))) ∗ (bigSep Finset.univ fun i : XI => reached ER (kcell c i) 0)
          ∗ (bigSep Finset.univ fun i : XI => atPos ER (kcell c i) 0 ∅ 0) ∗ (bigSep Finset.univ fun i : XI => dutyTok ER (kcell c i) 0 ()) ∗ lzeros c))
      ⊢ (bigSep Finset.univ (G' m) : sProp 𝕄) := by
  simp only [bigSep_sep']
  rw [← bigSep_univ_prod (fun p : Dev nD × XI => iprop(∃ κ : ℕ, cellInv ER (Rd m) κ (kcell p.1 p.2))),
    ← bigSep_univ_prod (fun p : Dev nD × XI => (reached ER (kcell p.1 p.2) 0 : sProp 𝕄))]
  iintro ⟨HI, #HR, Hat, Htok, Hl⟩
  ihave HK := (BI.bigSep_exists_pi Finset.univ (fun (p : Dev nD × XI) (κ : ℕ) => (cellInv ER (Rd m) κ (kcell p.1 p.2) : sProp 𝕄))) $$ HI
  icases HK with ⟨%K, #HI⟩
  have hp : (bigSep Finset.univ fun c : Dev nD => bigSep Finset.univ fun i : XI => atPos ER (kcell c i) 0 ∅ 0) ⊢ (bigSep Finset.univ fun c => places c : sProp 𝕄) :=
    bigSep_mono fun c _ => places_of c
  have hG : ∀ c ∈ (Finset.univ : Finset (Dev nD)), iprop(records m K ∗ places c ∗ pays c ∗ lzeros c) ⊢ G' m c := fun c _ => by
    unfold G'; iintro H; iexists K; iexact H
  iapply (share_out (R := records m K) hG)
  isplitr
  · unfold records; isplitl; · iexact HI
    iexact HR
  simp only [bigSep_sep']
  isplitl [Hat]
  · iapply hp; iexact Hat
  isplitl [Htok]; · iapply (pays_of (F := F)); iexact Htok
  iexact Hl

/-- The launch's step over every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## Credits at launch -/

/-- What is owed to device `c` is on its own cells. -/
theorem owedL_own (c : Dev nD) (l : List (Fin 16)) (g : GSem nD τ sig) (h : owedL (tgt c) l g ≠ 0) : g.1 = (c : Thread nD τ) := by
  by_contra hg
  refine h ?_
  induction l with
  | nil => rfl
  | cons j l ih =>
    unfold owedL
    rw [tgt_tgt]
    rw [Pi.add_apply, Pi.add_apply, tallyAt_ne_cell (fun e => hg (congrArg Prod.fst e)), tallyAt_ne_cell (fun e => hg (congrArg Prod.fst e)), add_zero, add_zero]
    by_contra hz; exact hz (ih hz)

theorem owed_own (c : Dev nD) (g : GSem nD τ sig) (h : O₀ (tgt c) g ≠ 0) : g.1 = (c : Thread nD τ) := by
  by_contra hg
  refine h ?_
  unfold O₀
  rw [tgt_tgt, Pi.add_apply, tallyAt_ne_cell (fun e => hg (congrArg Prod.fst e)), add_zero]
  by_contra hz; exact hg (owedL_own c heads g hz)

theorem cred_owedL (c : Dev nD) (l : List (Fin 16)) :
    cred (owedL (tgt c) l) ⊢ (bigSepL l fun h => iprop(cred (tallyAt (xcell c 2 h) () N) ∗ cred (tallyAt (xcell c 3 h) () N)) : sProp 𝕄) := by
  induction l with
  | nil => unfold owedL; rw [cred_zero]; exact BI.Entails.refl _
  | cons h l ih =>
    rw [bigSepL_cons']
    unfold owedL
    rw [tgt_tgt]
    refine (cred_add _ _).1.trans ?_
    iintro ⟨H, H2⟩
    ihave H' := (cred_add _ _).1 $$ H
    icases H' with ⟨Hl, H3⟩
    isplitl [H2 H3]
    · isplitl [H2]; · iexact H2
      iexact H3
    iapply ih; iexact Hl

theorem credits (c : Dev nD) : (Pipeline.launchCred O₀ c : sProp 𝕄) ⊢ iprop(cred (tallyAt (barCell c) () 1) ∗ creds c 2 ∗ creds c 3) := by
  rw [Pipeline.launchCred_of_sum O₀ (fun d => O₀ (tgt d)) ((Equiv.sum_comp swap O₀).symm) owed_own c]
  unfold O₀ creds
  rw [tgt_tgt, ← bigSep_sep', bigSep_univ_eq_bigSepL heads (by decide) (by decide)]
  refine (cred_add _ _).1.trans ?_
  iintro ⟨Hl, Hb⟩
  isplitl [Hb]; · iexact Hb
  iapply (cred_owedL c heads); iexact Hl

end Cert.KernelIdeal.Att

end
-- ==== Proof.Launch.lean ====
/- The launch: the body's obligation met, and the whole mesh's run. -/
module

public import proofs.«01_k».proof.Proof.Ghost
public import Idealize.ShloMosaic.Lib.Pipeline.CollectiveSegs

@[expose] public section

set_option maxRecDepth 16384

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ) (ρ : Dev nD → PrngReg)

/-- The launch state: any memory, every counter at zero, any generator registers. -/
def s₀ : MemSt nD τ sig (Elt F) := ⟨m, fun _ => 0, ρ⟩

/-! ## A head of an array, entry by entry -/

theorem col2_read {e : EltTy} (b : Memref sig .tc .hbm S1x1024x16x128 e) (h : Fin 16) (f : b.view.ty.Contents (Elt F)) (i : Fin 1024) (d : Fin 128) :
    (col2 b h).view.read (Elt F) f (ix2 i d) = b.view.read (Elt F) f (ix4 (0 : Fin 1) i h d) := by
  rw [show (col2 b h).view.read (Elt F) f = shapeCast S1024x128 (b.view.readAt (Elt F) (rCol h).toLoadRect f) squeezes_S1x1024x1x128_S1024x128.numel_eq from rfl]
  rw [shapeCast_apply _ _ (ix2 i d) (ix4 (0 : Fin 1) i (0 : Fin 1) d) (by
    rw [Shape.rowMajor_val_four, Shape.rowMajor_val_two]
    show ((0 * 1024 + i.val) * 1 + 0) * 128 + d.val = i.val * 128 + d.val
    omega)]
  show b.view.read (Elt F) f _ = _
  congr 1
  funext a
  apply Fin.ext
  match a with
  | ⟨0, _⟩ => rfl
  | ⟨1, _⟩ => exact (Nat.zero_add _).trans (Nat.one_mul _)
  | ⟨2, _⟩ => rfl
  | ⟨3, _⟩ => exact (Nat.zero_add _).trans (Nat.one_mul _)

/-- The result array: each head's part at its place. -/
def outF (c : Dev nD) : Buf (Elt F) ((c : Thread nD τ).loc main_v1) :=
  show S1x1024x16x128.Idx → Elt F .f32 from fun i => outCol m c (i 2) (ix2 (i 1 : Fin 1024) (i 3 : Fin 128))

theorem outF_read (c : Dev nD) (h : Fin 16) : (col2 mO h).view.read (Elt F) (outF m c) = outCol m c h := by
  funext j
  rw [eq_ix2 j]
  exact col2_read mO h (outF m c) _ _

/-! ## Whole buffers and their parts -/

theorem pts_whole (c : Dev nD) (r : Ref sig .tc) (f : Buf (Elt F) ((c : Thread nD τ).loc r)) :
    ((Memref.whole r).view.loc (c : Thread nD τ) ↦[(Memref.whole r : Memref sig .tc _ _ _).view.set]{fullShare} f : sProp 𝕄)
      = (((c : Thread nD τ).loc r) ↦{fullShare} f) := by
  rw [show (Memref.whole r : Memref sig .tc _ _ _).view.set = Finset.univ from View.set_whole r]

/-- The local semaphores of array `j` at zero. -/
def lzero (c : Dev nD) (j : Fin 4) : sProp 𝕄 := bigSep Finset.univ fun h => semVal ((c : Thread nD τ), lsem (j, h)) 0

theorem lzeros_eq (c : Dev nD) : (lzeros c : sProp 𝕄) = iprop(lzero c 0 ∗ lzero c 1 ∗ lzero c 2 ∗ lzero c 3) := by
  unfold lzeros lzero; exact four_arrays _

/-- An argument, its staging buffer and its semaphores are its heads' parts. -/
theorem before_all (c : Dev nD) (a : Memref sig .tc .hbm S1x1024x16x128 .f32) (b : Memref sig .tc .vmem S16x1024x128 .f32) (j : Fin 4)
    (f : Buf (Elt F) (a.view.loc (c : Thread nD τ))) :
    (bigSep Finset.univ fun h => before c h a b j ((col2 a h).view.read (Elt F) f))
      ⊣⊢ (iprop((a.view.loc (c : Thread nD τ) ↦[a.view.set]{fullShare} f) ∗ any c b ∗ lzero c j) : sProp 𝕄) := by
  unfold before lzero
  simp only [bigSep_sep']
  rw [← pts_cols]
  exact ⟨BIClass.sep_mono (BI.Entails.refl _) (BIClass.sep_mono (any_rows c b).2 (BI.Entails.refl _)), BIClass.sep_mono (BI.Entails.refl _) (BIClass.sep_mono (any_rows c b).1 (BI.Entails.refl _))⟩

/-- The arguments as launched. -/
def inputs (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_arg2) ↦{fullShare} m ((c : Thread nD τ).loc main_arg2)))

/-- The scratch buffers. -/
def buffers (c : Dev nD) : sProp 𝕄 :=
  iprop(any c kst ∗ any c vst ∗ any c qst ∗ any c kb ∗ any c vb ∗ any c qb ∗ any c ck ∗ any c cv ∗ any c ov ∗ any c ls)

theorem scopedRest_eq (c : Dev nD) :
    (Pipeline.scopedRest (Ix := Unit) (Name := ℕ) (U := UU) (Lvl := ℕ) (Val := Elt F) cfg0.spec c : sProp 𝕄) = buffers c := by
  rw [scopedRest0_eq]; unfold buffers
  simp only [any_whole]

/-- What the launch hands, cut into what the body takes. -/
theorem cut (c : Dev nD) : iprop(inputs m c ∗ any c mO ∗ buffers c ∗ lzeros c)
    ⊢ (iprop(args m c ∗ scratch c ∗ (bigSep Finset.univ fun h => any c (col2 mO h)) ∗ lzero c 3) : sProp 𝕄) := by
  rw [lzeros_eq]
  unfold inputs buffers args scratch
  iintro ⟨⟨HQ, HK, HV⟩, HO, ⟨Hkst, Hvst, Hqst, Hkb, Hvb, Hqb, Hck, Hcv, Hov, Hls⟩, Hz0, Hz1, Hz2, Hz3⟩
  ihave HK := (Entails.of_eq (pts_whole c main_arg1 _).symm) $$ HK
  ihave HV := (Entails.of_eq (pts_whole c main_arg2 _).symm) $$ HV
  ihave HQ := (Entails.of_eq (pts_whole c main_arg0 _).symm) $$ HQ
  ihave HK := (before_all c mK kst 0 (m ((c : Thread nD τ).loc main_arg1))).2 $$ [HK Hkst Hz0]
  · isplitl [HK]; · iexact HK
    isplitl [Hkst] <;> iassumption
  ihave HV := (before_all c mV vst 1 (m ((c : Thread nD τ).loc main_arg2))).2 $$ [HV Hvst Hz1]
  · isplitl [HV]; · iexact HV
    isplitl [Hvst] <;> iassumption
  ihave HQ := (before_all c mQ qst 2 (m ((c : Thread nD τ).loc main_arg0))).2 $$ [HQ Hqst Hz2]
  · isplitl [HQ]; · iexact HQ
    isplitl [Hqst] <;> iassumption
  ihave HO := (any_cols c mO) $$ HO
  ihave Hkb := (any_rows c kb).1 $$ Hkb
  ihave Hvb := (any_rows c vb).1 $$ Hvb
  ihave Hqb := (any_rows c qb).1 $$ Hqb
  ihave Hck := (any_rows c ck).1 $$ Hck
  ihave Hcv := (any_rows c cv).1 $$ Hcv
  ihave Hov := (any_rows c ov).1 $$ Hov
  ihave Hls := (any_sums c ls).1 $$ Hls
  ihave Hls := (Entails.of_eq (bigSep_sep' Finset.univ (fun h => (any c (srow ls h 0) : sProp 𝕄)) fun h => any c (srow ls h 1))) $$ Hls
  icases Hls with ⟨Hs0, Hs1⟩
  isplitl [HK HV HQ]
  · isplitl [HK]; · iexact HK
    isplitl [HV]; · iexact HV
    iexact HQ
  isplitr [HO Hz3]
  · unfold anyRows
    isplitl [Hkb]; · iexact Hkb
    isplitl [Hvb]; · iexact Hvb
    isplitl [Hqb]; · iexact Hqb
    isplitl [Hck]; · iexact Hck
    isplitl [Hcv]; · iexact Hcv
    isplitl [Hov]; · iexact Hov
    isplitl [Hs0] <;> iassumption
  isplitl [HO] <;> iassumption

/-- What the body gives back, put together. -/
theorem join (c : Dev nD) : iprop(args m c ∗ scratch c ∗ (bigSep Finset.univ fun h => holds c (col2 mO h) fullShare (outCol m c h)) ∗ lzero c 3)
    ⊢ (iprop(inputs m c ∗ (((c : Thread nD τ).loc main_v1) ↦{fullShare} outF m c) ∗ buffers c ∗ lzeros c) : sProp 𝕄) := by
  rw [lzeros_eq]
  unfold inputs buffers args scratch
  iintro ⟨⟨HK, HV, HQ⟩, ⟨Hkb, Hvb, Hqb, Hck, Hcv, Hov, Hs0, Hs1⟩, HO, Hz3⟩
  ihave HK := (show (bigSep Finset.univ fun h => before c h mK kst 0 (kCol m c h)) ⊢ _ from (before_all c mK kst 0 (m ((c : Thread nD τ).loc main_arg1))).1) $$ HK
  icases HK with ⟨HK, Hkst, Hz0⟩
  ihave HV := (show (bigSep Finset.univ fun h => before c h mV vst 1 (vCol m c h)) ⊢ _ from (before_all c mV vst 1 (m ((c : Thread nD τ).loc main_arg2))).1) $$ HV
  icases HV with ⟨HV, Hvst, Hz1⟩
  ihave HQ := (show (bigSep Finset.univ fun h => before c h mQ qst 2 (qCol m c h)) ⊢ _ from (before_all c mQ qst 2 (m ((c : Thread nD τ).loc main_arg0))).1) $$ HQ
  icases HQ with ⟨HQ, Hqst, Hz2⟩
  ihave HK := (Entails.of_eq (pts_whole c main_arg1 _)) $$ HK
  ihave HV := (Entails.of_eq (pts_whole c main_arg2 _)) $$ HV
  ihave HQ := (Entails.of_eq (pts_whole c main_arg0 _)) $$ HQ
  have ho : (bigSep Finset.univ fun h => holds c (col2 mO h) fullShare (outCol m c h)) ⊢ (((c : Thread nD τ).loc main_v1) ↦{fullShare} outF m c : sProp 𝕄) := by
    rw [← pts_whole c main_v1 (outF m c), pts_cols c mO fullShare (outF m c)]
    exact bigSep_mono fun h _ => by rw [outF_read]; exact BI.Entails.refl _
  ihave HO := ho $$ HO
  unfold anyRows
  ihave Hkb := (any_rows c kb).2 $$ Hkb
  ihave Hvb := (any_rows c vb).2 $$ Hvb
  ihave Hqb := (any_rows c qb).2 $$ Hqb
  ihave Hck := (any_rows c ck).2 $$ Hck
  ihave Hcv := (any_rows c cv).2 $$ Hcv
  ihave Hov := (any_rows c ov).2 $$ Hov
  ihave Hls := ((Entails.of_eq (bigSep_sep' Finset.univ (fun h => (any c (srow ls h 0) : sProp 𝕄)) fun h => any c (srow ls h 1)).symm).trans (any_sums c ls).2) $$ [Hs0 Hs1]
  · isplitl [Hs0] <;> iassumption
  isplitl [HQ HK HV]
  · isplitl [HQ]; · iexact HQ
    isplitl [HK] <;> iassumption
  isplitl [HO]; · iexact HO
  isplitr [Hz0 Hz1 Hz2 Hz3]
  · isplitl [Hkst]; · iexact Hkst
    isplitl [Hvst]; · iexact Hvst
    isplitl [Hqst]; · iexact Hqst
    isplitl [Hkb]; · iexact Hkb
    isplitl [Hvb]; · iexact Hvb
    isplitl [Hqb]; · iexact Hqb
    isplitl [Hck]; · iexact Hck
    isplitl [Hcv]; · iexact Hcv
    isplitl [Hov] <;> iassumption
  isplitl [Hz0]; · iexact Hz0
  isplitl [Hz1]; · iexact Hz1
  isplitl [Hz2] <;> iassumption

/-! ## The body's obligation -/

/-- What device `c` starts with, the scratch apart. -/
def start (c : Dev nD) : sProp 𝕄 := iprop((∃ K, facts m K ∗ part c ∗ lzeros c) ∗ inputs m c ∗ any c mO)
def Φ₀ (c : Dev nD) : sProp 𝕄 := iprop(start m c ∗ buffers c)
/-- What device `c` ends with. -/
def Φ₁ (c : Dev nD) : sProp 𝕄 :=
  iprop((semVal (barCell c) 0 ∗ zeros c 0 ∗ zeros c 1 ∗ zeros c 2 ∗ zeros c 3)
    ∗ inputs m c ∗ (((c : Thread nD τ).loc main_v1) ↦{fullShare} outF m c) ∗ buffers c ∗ lzeros c)

def dats (_ : Fin 1) (c : Dev nD) : Dat τ (Elt F) Unit ℕ UU ℕ cfg0 c where
  A w := w.elim0
  after w := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem body_ok (c : Dev nD) (Q : PUnit → sProp 𝕄) : iprop((Φ₀ m c ∗ owe c (O₀ c)) ∗ ((Φ₁ m c ∗ owe c 0) -∗ Q ⟨⟩)) ⊢ runs c body Q := by
  unfold Φ₀ start
  iintro ⟨⟨⟨⟨⟨%K, Hf, Hp, Hl⟩, Hi, HO⟩, Hb⟩, Ho⟩, Hk⟩
  ihave H := (cut m c) $$ [Hi HO Hb Hl]
  · isplitl [Hi]; · iexact Hi
    isplitl [HO]; · iexact HO
    isplitl [Hb] <;> iassumption
  iapply (sound_body m K c Q)
  unfold bodyPre bodyPost owing
  isplitr [Hk]
  · isplitl [Hf Ho]
    · isplitl [Hf] <;> iassumption
    isplitl [Hp]; · iexact Hp
    iexact H
  iintro ⟨Ho, Hz, H⟩
  iapply Hk
  unfold Φ₁
  isplitr [Ho]
  · isplitl [Hz]; · iexact Hz
    iapply (join m c); iexact H
  iexact Ho

theorem body_obligation (c : Dev nD) : BodyObligation (dats (F := F) m 0 c) (defs₀ (F := F)) 𝒱₀ () Set.univ := fun t => by
  rw [fin_N0 t]
  simp only [show (Finset.univ : Finset (Fin cfg0.W)) = ∅ from rfl, BI.bigSep_empty]
  show iprop(Φ₀ m c ∗ (dats m 0 c).owesAt () t0_0.castSucc ∗ emp) ⊢ runs c (bodyAt0 t0_0) (fun _ => iprop(Φ₁ m c ∗ (dats m 0 c).owesAt () t0_0.succ ∗ emp))
  rw [body_eq]
  unfold Dat.owesAt Pipeline.owesWithin
  rw [show (dats m 0 c).owed t0_0.succ = 0 from rfl, show (dats m 0 c).owed t0_0.castSucc = O₀ c from rfl]
  iintro ⟨HΦ, ⟨%W, -, HO⟩, -⟩
  iapply (body_ok m c)
  isplitl [HΦ HO]
  · isplitl [HΦ]; · iexact HΦ
    unfold owe; iexists W; iexact HO
  unfold owe
  iintro ⟨HΦ, ⟨%W', HO⟩⟩
  isplitl [HΦ]; · iexact HΦ
  isplitl [HO]
  · iexists W'; isplitr; · ipureintro; exact fun _ _ => Or.inl trivial
    iexact HO
  iempintro

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' records places pays
  iintro ⟨⟨H0, H1, H2, H3⟩, Hlev, Hcr, -, ⟨%K, ⟨HI, HR⟩, ⟨HaB, Ha⟩, ⟨HtB, Ht⟩, Hl⟩⟩
  ihave Hc := (credits (F := F) c) $$ Hcr
  icases Hc with ⟨HcB, Hc⟩
  imodintro
  isplitl
  · unfold start inputs
    rw [any_whole]
    isplitr [H0 H1 H2 H3]
    · iexists K
      isplitl [HI HR Hlev]
      · unfold facts
        isplitl [HI]; · iexact HI
        isplitl [HR] <;> iassumption
      isplitr [Hl]
      · unfold part
        isplitl [HtB]; · iexact HtB
        isplitl [HcB]; · iexact HcB
        isplitl [HaB]; · iexact HaB
        isplitl [Ht]; · iexact Ht
        isplitl [Hc] <;> iassumption
      iexact Hl
    isplitl [H0 H1 H2]
    · isplitl [H0]; · iexact H0
      isplitl [H1] <;> iassumption
    iexists _; iexact H3
  iempintro

theorem first_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest_eq]
  unfold Φ₀
  iintro ⟨Hs, -, Hb⟩
  isplitl [Hs] <;> iassumption

/-- What is read off device `c` at the end. -/
def final (c : Dev nD) : sProp 𝕄 :=
  iprop(unscopedSems0 c ∗ inputs m c ∗ (((c : Thread nD τ).loc main_v1) ↦{fullShare} outF m c))

theorem last_elim (c : Dev nD) :
    (dats m 0 c).Φ (Fin.last cfg0.N) ⊢ iprop(final m c ∗ Pipeline.ownSems0 osem c ∗ Pipeline.scopedRest cfg0.spec c) := by
  rw [show (dats m 0 c).Φ (Fin.last cfg0.N) = Φ₁ m c from rfl, scopedRest_eq, ownSems0_eq]
  unfold Φ₁ final
  rw [unscopedSems0_eq, four_arrays]
  iintro ⟨⟨HB, Hz⟩, Hi, HO, Hb, Hl⟩
  isplitl [HB Hi HO]
  · isplitl [HB]; · iexact HB
    isplitl [Hi] <;> iassumption
  isplitl [Hl Hz]
  · isplitl [Hl]; · iexact Hl
    unfold zeros; iexact Hz
  iexact Hb

/-- The facts read off device `c`. -/
def Q₁ (c : Dev nD) (s : MemSt nD τ sig (Elt F)) : Prop :=
  (∀ sm : SemLoc sig, sm.isScoped .tc = false → s.sem ((c.tc : Thread nD τ), sm) = 0)
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_v1) = outF m c

theorem final_read (c : Dev nD) (s' : Phys nD τ sig (Elt F)) :
    iprop(final m c ∗ emp ∗ SI s') ⊢ (|={Set.univ}=> iprop(⌜Q₁ m c s'.mem⌝ ∗ SI s') : sProp 𝕄) := by
  unfold final inputs
  iintro ⟨⟨Hu, ⟨H0, H1, H2⟩, H3⟩, -, HSI⟩
  icombine HSI H0 gives %h0
  icombine HSI H1 gives %h1
  icombine HSI H2 gives %h2
  icombine HSI H3 gives %h3
  imod (Pipeline.unscopedSems0_read (X := unscopedSems0 c) (c := c) fupd_intro s') $$ [Hu HSI] with ⟨%hu, HSI⟩
  · isplitl [Hu] <;> iassumption
  imodintro
  isplitr
  · ipureintro
    exact ⟨hu, Buf.eq_of_forall_mem_univ h0, Buf.eq_of_forall_mem_univ h1, Buf.eq_of_forall_mem_univ h2, Buf.eq_of_forall_mem_univ h3⟩
  iexact HSI

/-! ## The run -/

/-- Every device's arguments as launched, its result array at `outF`, every counter at zero. -/
def QC : PUnit × MemSt nD τ sig (Elt F) → Prop := fun r =>
  (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_v1) = outF m c)
  ∧ r.2.sem = fun _ => 0

theorem run_main : θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats m) () 0 c fun w => w.elim0)
    (G := G m) (G' := G' m) (u₀ := u₀)
    (hu₀ := by
      unfold u₀
      iintro Hu
      ihave H := (ownU_pair _ _) $$ Hu
      icases H with ⟨HP, HX⟩
      ihave H := (own_pair_emb _ _ _) $$ HX
      icases H with ⟨HX, -⟩
      imod (fund_all m) $$ [HX] with HG
      · unfold ER; iexact HX
      imodintro
      isplitl [HP] <;> iassumption)
    (hglob := glob m)
    (hA := fun _ w => w.elim0) (hpf := fun _ k => k.elim0)
    (X := start m) (Y := final m) (Z := fun _ => iprop(emp))
    (hX := start_intro m ρ) (hin := first_intro m) (hout := last_elim m)
    (QY := Q₁ m)
    (hY := final_read m)
    (hQ := fun _ h hs => ⟨fun c => (h c).2.2.2, sem_eq_zero hs fun c => (h c).2.2.1⟩)

end Cert.KernelIdeal.Att

end
-- ==== Proof.Twin.lean ====
/- The kernel as printed and the kernel with its named constant, read at bit patterns, are one program. -/
module

public import proofs.«01_k».proof.Proof.Launch
public import proofs.«01_k».proof.Proof.Gen.Kernel.Launch
public import Idealize.ShloMosaic.PureOps.BitExact

@[expose] public section

set_option maxRecDepth 16384

noncomputable section

namespace Cert.Kernel.Att

open Idealize.ShloMosaic Idealize.ShloMosaic.TcCoe Idealize.SL.Sem

/-- A named constant read at bit patterns is the pattern it was printed with. -/
instance namedBits : Named Bits where
  named _ _ {φ} b := Scalar.ofBits φ b

/-- The kernel as printed runs at bit patterns: its arguments end as launched, every counter at zero. -/
theorem run_main (m : (ℓ : Loc nD τ sig) → Buf (Elt Bits) ℓ) (ρ : Dev nD → PrngReg) :
    θ_run (defs (F := Bits)) (onTc (τ := τ) (main (F := Bits))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) :=
  (θ_run (defs (F := Bits)) _ _).mono (fun _ h => ⟨fun c => ⟨(h.1 c).1, (h.1 c).2.1, (h.1 c).2.2.1⟩, h.2⟩)
    (Cert.KernelIdeal.Att.run_main (F := Bits) m ρ)

end Cert.Kernel.Att

end
-- ==== Proof.Frames.lean ====
/- The claims that name no result: each program runs, and the idealization is the sanctioned one. -/
module

public import proofs.«01_k».proof.Defs
public import proofs.«01_k».proof.Proof.Twin
public import proofs.«01_k».proof.Proof.Gen.ReferenceIdeal.Run
public import proofs.«01_k».proof.Proof.Gen.Pre_finite_KernelIdeal
public import proofs.«01_k».proof.Proof.Gen.Pre_finite_ReferenceIdeal
public import Idealize.ShloMosaic.Lib.Quiescent

@[expose] public section

noncomputable section

namespace Cert.Proof

open Idealize.ShloMosaic Idealize.ShloMosaic.TcCoe Idealize.SL.Sem

theorem frame_p : Cert.quiescent_Kernel := fun m ρ _ => Cert.Kernel.Att.run_main m ρ

theorem frame_pi_any (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r =>
      (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => ⟨(h.1 c).1, (h.1 c).2.1, (h.1 c).2.2.1⟩, h.2⟩)
    (Cert.KernelIdeal.Att.run_main (F := Ideal) m ρ)

theorem frame_pi : Cert.quiescent_KernelIdeal := fun m ρ _ => frame_pi_any m ρ

theorem frame_pi_finite :
    Cert.quiescent_KernelIdeal_pre_finite_KernelIdeal (hPre_finite_KernelIdeal := Cert.Pre_finite_KernelIdeal.Gen.facts) :=
  fun m ρ _ => frame_pi_any m ρ

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ri_finite :
    Cert.quiescent_ReferenceIdeal_pre_finite_ReferenceIdeal (hPre_finite_ReferenceIdeal := Cert.Pre_finite_ReferenceIdeal.Gen.facts) :=
  fun m ρ _ => frame_ri m ρ trivial

theorem preserves_p : Cert.preserves_Kernel_KernelIdeal :=
  IdealRules.named_const.statement Cert.KernelIdeal.κ "q_scale" .f32 0x3E0293EE#32 (((Real.sqrt 128)⁻¹ * (Real.log 2)⁻¹ : ℝ) : EReal) rfl

end Cert.Proof

end
-- ==== Proof.Value.lean ====
/- What the kernel's arithmetic computes, entry by entry, over the extended reals. -/
module

public import proofs.«01_k».proof.Proof.Launch
public import Idealize.ShloMosaic.Lib.Pointwise

@[expose] public section

set_option maxRecDepth 16384

noncomputable section

namespace Cert.KernelIdeal.Att

open Idealize.ShloMosaic Idealize.ShloMosaic.TcCoe
open Idealize.SL Idealize.SL.RA Idealize.SL.BI Idealize.SL.Sem
open Cert.KernelIdeal Cert.KernelIdeal.Gen

/-! ## The local steps at an entry -/

/-- The scale of the queries: `1 / √128`, in units of the exponent of two. -/
def qScale : ℝ := (Real.sqrt 128)⁻¹ * (Real.log 2)⁻¹

theorem named_qScale : Named.named (F := Ideal) κ "q_scale" (φ := .f32) 0x3E0293EE#32 = (qScale : EReal) :=
  IdealRules.named_const.ideal_named_scalar _ _ _ _ rfl

theorem castRow_at (v : Vec Ideal S1x1024x128 .f32) (i : Fin 1024) (d : Fin 128) :
    castRow v (ix3 (0 : Fin 1) i d) = v (ix3 (0 : Fin 1) i d) := by
  unfold castRow
  pointwise [k0_pay5, k0_pay4]

theorem castQ_at (v : Vec Ideal S1x1024x128 .f32) (i : Fin 1024) (d : Fin 128) :
    castQ v (ix3 (0 : Fin 1) i d) = (v (ix3 (0 : Fin 1) i d) : EReal) * (qScale : EReal) := by
  unfold castQ
  pointwise [k0_pay40]
  rw [named_qScale]

theorem pay1_at (q : Vec Ideal S1x512x128 .bf16) (k : Vec Ideal S1x1024x128 .bf16) (i : Fin 512) (j : Fin 1024) :
    k0_pay1 q k (ix2 i j) = Ideal.exp2 (∑ d : Fin 128, (q (ix3 (0 : Fin 1) i d) * k (ix3 (0 : Fin 1) j d) : EReal)) := by
  pointwise [k0_pay1]
  rfl

theorem ownOut_at (q : Vec Ideal S1x512x128 .bf16) (k v : Vec Ideal S1x1024x128 .bf16) (i : Fin 512) (d : Fin 128) :
    ownOut q k v (ix3 (0 : Fin 1) i d)
      = ∑ j : Fin 1024, (k0_pay1 q k (ix2 i j) * v (ix3 (0 : Fin 1) j d) : EReal) := by
  unfold ownOut
  pointwise [k0_pay59, k0_pay3]

theorem ownSum_at (q : Vec Ideal S1x512x128 .bf16) (k : Vec Ideal S1x1024x128 .bf16) (i : Fin 512) :
    ownSum q k (ix2 (0 : Fin 1) i) = ∑ j : Fin 1024, (k0_pay1 q k (ix2 i j) : EReal) := by
  unfold ownSum
  pointwise [k0_pay60, k0_pay2]

theorem joined_at (q : Vec Ideal S1x512x128 .bf16) (k v : Vec Ideal S1x1024x128 .bf16) (l : Vec Ideal S1x512 .f32)
    (o : Vec Ideal S1x512x128 .f32) (i : Fin 512) (d : Fin 128) :
    joined q k v l o (ix3 (0 : Fin 1) i d)
      = Ideal.div (o (ix3 (0 : Fin 1) i d) + ∑ j : Fin 1024, (k0_pay1 q k (ix2 i j) * v (ix3 (0 : Fin 1) j d) : EReal))
          (l (ix2 (0 : Fin 1) i) + ∑ j : Fin 1024, (k0_pay1 q k (ix2 i j) : EReal)) := by
  unfold joined
  pointwise [k0_pay61, k0_pay1]

/-! ## Rows and halves at an entry -/

theorem lift3_at {α : Type} (w : S1024x128.Idx → α) (i : Fin 1024) (d : Fin 128) :
    lift3 w (ix3 (0 : Fin 1) i d) = w (ix2 i d) := by
  unfold lift3
  refine congrArg w ((Equiv.symm_apply_eq _).2 ?_)
  pointwise

theorem drop3_at {α : Type} (w : S1x1024x128.Idx → α) (i : Fin 1024) (d : Fin 128) :
    drop3 w (ix2 i d) = w (ix3 (0 : Fin 1) i d) := by
  unfold drop3
  pointwise

theorem half_at {α : Type} (r : Fin 2) (X : S1x1024x128.Idx → α) (i : Fin 512) (d : Fin 128) :
    half r X (ix3 (0 : Fin 1) i d) = X (ix3 (0 : Fin 1) (⟨512 * r.val + i.val, by omega⟩ : Fin 1024) d) := by
  unfold half
  refine congrArg X (funext fun a => Fin.ext ?_)
  match a with
  | ⟨0, _⟩ => rfl
  | ⟨1, _⟩ => exact congrArg (512 * r.val + ·) (Nat.one_mul i.val)
  | ⟨2, _⟩ => exact (Nat.zero_add _).trans (Nat.one_mul d.val)

theorem glue_at {α : Type} (X : Fin 2 → S1x512x128.Idx → α) (i : Fin 1024) (d : Fin 128) :
    glue X (ix3 (0 : Fin 1) i d)
      = X ⟨i.val / 512, by omega⟩ (ix3 (0 : Fin 1) (⟨i.val % 512, Nat.mod_lt _ (by decide)⟩ : Fin 512) d) := by
  unfold glue
  refine congrArg (X _) (funext fun a => ?_)
  match a with
  | ⟨0, _⟩ => rfl
  | ⟨1, _⟩ => rfl
  | ⟨2, _⟩ => rfl

/-! ## The result at an entry -/

variable (m : (ℓ : Loc nD τ sig) → Buf (Elt Ideal) ℓ)

/-- The three arguments of a device. -/
def argQ (c : Dev nD) : S1x1024x16x128.Idx → EReal := m ((c : Thread nD τ).loc main_arg0)
def argK (c : Dev nD) : S1x1024x16x128.Idx → EReal := m ((c : Thread nD τ).loc main_arg1)
def argV (c : Dev nD) : S1x1024x16x128.Idx → EReal := m ((c : Thread nD τ).loc main_arg2)

/-- The weight of query `i` of device `c` on key `j` of device `c'`, in head `h`. -/
def wgt (c c' : Dev nD) (h : Fin 16) (i j : Fin 1024) : EReal :=
  Ideal.exp2 (∑ d : Fin 128, argQ m c (ix4 (0 : Fin 1) i h d) * (qScale : EReal) * argK m c' (ix4 (0 : Fin 1) j h d))

theorem qRow_at (c : Dev nD) (h : Fin 16) (i : Fin 1024) (d : Fin 128) :
    qRow m c h (ix3 (0 : Fin 1) i d) = argQ m c (ix4 (0 : Fin 1) i h d) * (qScale : EReal) := by
  unfold qRow
  rw [castQ_at, lift3_at, show qCol m c h (ix2 i d) = _ from col2_read mQ h _ i d]
  rfl

theorem kRow_at (c : Dev nD) (h : Fin 16) (i : Fin 1024) (d : Fin 128) :
    kRow m c h (ix3 (0 : Fin 1) i d) = argK m c (ix4 (0 : Fin 1) i h d) := by
  unfold kRow
  rw [castRow_at, lift3_at]
  exact col2_read mK h _ i d

theorem vRow_at (c : Dev nD) (h : Fin 16) (i : Fin 1024) (d : Fin 128) :
    vRow m c h (ix3 (0 : Fin 1) i d) = argV m c (ix4 (0 : Fin 1) i h d) := by
  unfold vRow
  rw [castRow_at, lift3_at]
  exact col2_read mV h _ i d

theorem pay1_rows (c c' : Dev nD) (h : Fin 16) (r : Fin 2) (i : Fin 512) (j : Fin 1024) :
    k0_pay1 (half r (qRow m c h)) (kRow m c' h) (ix2 i j) = wgt m c c' h ⟨512 * r.val + i.val, by omega⟩ j := by
  rw [pay1_at]
  unfold wgt
  refine congrArg Ideal.exp2 (Finset.sum_congr rfl fun d _ => ?_)
  rw [half_at, qRow_at, kRow_at]

theorem outHalf_at (c : Dev nD) (h : Fin 16) (r : Fin 2) (i : Fin 512) (d : Fin 128) (i' : Fin 1024) (hi : i'.val = 512 * r.val + i.val) :
    outHalf m c h r (ix3 (0 : Fin 1) i d)
      = Ideal.div (∑ j : Fin 1024, wgt m c c h i' j * argV m c (ix4 (0 : Fin 1) j h d)
          + ∑ j : Fin 1024, wgt m c (tgt c) h i' j * argV m (tgt c) (ix4 (0 : Fin 1) j h d))
        (∑ j : Fin 1024, wgt m c c h i' j + ∑ j : Fin 1024, wgt m c (tgt c) h i' j) := by
  have hi' : (⟨512 * r.val + i.val, by omega⟩ : Fin 1024) = i' := Fin.ext hi.symm
  unfold outHalf ownO ownL
  rw [joined_at, ownOut_at, ownSum_at]
  have e (c' : Dev nD) (j : Fin 1024) : k0_pay1 (half r (qRow m c h)) (kRow m c' h) (ix2 i j) = wgt m c c' h i' j :=
    (pay1_rows m c c' h r i j).trans (by rw [hi'])
  refine congrArg₂ Ideal.div (congrArg₂ (· + ·) ?_ ?_) (congrArg₂ (· + ·) ?_ ?_) <;>
    refine Finset.sum_congr rfl fun j _ => ?_
  · rw [e, vRow_at]
  · rw [e, vRow_at]
  · exact e _ _
  · exact e _ _

/-- Device `c`'s result at query `i`, head `h`, lane `d`: the weighted mean of both devices' values. -/
theorem outF_at (c : Dev nD) (i : Fin 1024) (h : Fin 16) (d : Fin 128) :
    (outF m c : S1x1024x16x128.Idx → EReal) (ix4 (0 : Fin 1) i h d)
      = Ideal.div (∑ j : Fin 1024, wgt m c c h i j * argV m c (ix4 (0 : Fin 1) j h d)
          + ∑ j : Fin 1024, wgt m c (tgt c) h i j * argV m (tgt c) (ix4 (0 : Fin 1) j h d))
        (∑ j : Fin 1024, wgt m c c h i j + ∑ j : Fin 1024, wgt m c (tgt c) h i j) := by
  show drop3 (glue (outHalf m c h)) (ix2 i d) = _
  rw [drop3_at, glue_at]
  exact outHalf_at m c h _ _ d i (by show i.val = 512 * (i.val / 512) + i.val % 512; omega)

/-! ## Where a device's entries lie in the whole arrays -/

/-- Entry `j` of device `c`'s block, along the sequence of the whole. -/
def spot (c : Dev nD) (j : Fin 1024) : Fin 2048 := ⟨c.val / 4 % 2 * 1024 + j.val, by omega⟩

theorem tgt_block : ∀ c : Dev nD, (tgt c).val / 4 % 2 = 1 - c.val / 4 % 2 := by decide

/-- A sum over the sequence: over the device's own block, then over the other's. -/
theorem sum_blocks {M : Type} [AddCommMonoid M] (c : Dev nD) (f : Fin 2048 → M) :
    ∑ k, f k = ∑ j, f (spot c j) + ∑ j, f (spot (tgt c) j) := by
  rw [Fin.sum_univ_two_halves 1024 1024 rfl f]
  have ht := tgt_block c
  have h₀ (x : Dev nD) (h : x.val / 4 % 2 = 0) : ∑ k : Fin 1024, f ⟨k.val, by omega⟩ = ∑ j, f (spot x j) :=
    Finset.sum_congr rfl fun j _ => congrArg f (Fin.ext (by show j.val = x.val / 4 % 2 * 1024 + j.val; omega))
  have h₁ (x : Dev nD) (h : x.val / 4 % 2 = 1) : ∑ k : Fin 1024, f ⟨1024 + k.val, by omega⟩ = ∑ j, f (spot x j) :=
    Finset.sum_congr rfl fun j _ => congrArg f (Fin.ext (by show 1024 + j.val = x.val / 4 % 2 * 1024 + j.val; omega))
  rcases Nat.mod_two_eq_zero_or_one (c.val / 4) with h | h
  · rw [h₀ c h, h₁ (tgt c) (by omega)]
  · rw [h₁ c h, h₀ (tgt c) (by omega), add_comm]

/-- A block of a whole array at an entry. -/
theorem block_at (c : Dev nD) (w : (⟨4, ![1, 2048, 16, 128]⟩ : Shape).Idx → EReal) (i : Fin 1024) (h : Fin 16) (d : Fin 128) :
    (Layout.blockN ⟨4, ![1, 1024, 16, 128]⟩ ⟨4, ![1, 2048, 16, 128]⟩ (Layout.meshBlock [2, 2, 4] ![[], [1], [], []] c) w) (ix4 (0 : Fin 1) i h d)
      = w (ix4 (0 : Fin 1) (spot c i) h d) := by
  rw [Layout.blockN_apply]
  refine congrArg w (funext fun a => Fin.ext ?_)
  rw [Layout.TilesN.idx_val, Layout.meshBlock_val]
  match a with
  | ⟨0, _⟩ => rfl
  | ⟨1, _⟩ =>
    show (c.val / 4 % 2 * 1 + 0) * 1024 + i.val = c.val / 4 % 2 * 1024 + i.val
    omega
  | ⟨2, _⟩ => exact (congrArg (· + h.val) (Nat.zero_mul 16)).trans (Nat.zero_add _)
  | ⟨3, _⟩ => exact (congrArg (· + d.val) (Nat.zero_mul 128)).trans (Nat.zero_add _)

end Cert.KernelIdeal.Att

end
-- ==== Proof.Softmax.lean ====
/- The arithmetic of the softmax weights: real sums among the extended reals, and the weighted mean in two spellings. -/
module

public import Idealize.ShloMosaic.Lib.Pointwise

@[expose] public section

noncomputable section

namespace Cert.Softmax

open Idealize.ShloMosaic

theorem ofBits_128 : Ideal.ofBits .f32 0x43000000#32 = ((128 : ℝ) : EReal) := by
  simp [Ideal.ofBits, Ideal.ieee, -EReal.coe_mul]; norm_num
theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]

/-- A sum of reals is the same among the extended reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div_coe_coe (x : ℝ) {y : ℝ} (h : y ≠ 0) : Ideal.div (x : EReal) (y : EReal) = ((x / y : ℝ) : EReal) := by
  rw [Ideal.div_coe h, ← EReal.coe_mul, mul_one_div]

/-- The largest of finitely many reals, at least one, is a real. -/
theorem fold_max_coe {n : ℕ} (f : Fin (n + 1) → ℝ) :
    ∃ M : ℝ, (Finset.univ : Finset (Fin (n + 1))).fold max (⊥ : EReal) (fun i => (f i : EReal)) = M := by
  have h₁ : (Finset.univ : Finset (Fin (n + 1))).fold max (⊥ : EReal) (fun i => (f i : EReal)) < ⊤ :=
    (Finset.fold_max_lt _).2 ⟨bot_lt_top, fun i _ => EReal.coe_lt_top _⟩
  have h₂ : ⊥ < (Finset.univ : Finset (Fin (n + 1))).fold max (⊥ : EReal) (fun i => (f i : EReal)) :=
    (Finset.lt_fold_max _).2 (.inr ⟨0, Finset.mem_univ _, EReal.bot_lt_coe _⟩)
  exact ⟨_, (EReal.coe_toReal h₁.ne h₂.ne').symm⟩

/-- A value whose magnitude is below infinity is a real. -/
theorem real_of_abs_lt {x : EReal} (h : max x (-x) < ⊤) : ∃ r : ℝ, x = r := by
  induction x using EReal.rec with
  | bot => simp at h
  | top => simp at h
  | coe r => exact ⟨r, rfl⟩

/-- A power of two at the scaled sum is the exponential of the sum over the root. -/
theorem rpow_scaled (a : ℝ) : Real.rpow 2 (a * ((Real.sqrt 128)⁻¹ * (Real.log 2)⁻¹)) = Real.exp (a / Real.sqrt 128) := by
  show (2 : ℝ) ^ (a * ((Real.sqrt 128)⁻¹ * (Real.log 2)⁻¹)) = _
  rw [Real.rpow_def_of_pos (by norm_num)]
  have h : Real.log 2 ≠ 0 := (Real.log_pos (by norm_num)).ne'
  congr 1
  field_simp

/-- Weights shifted by any `M`, divided by their sum and applied, give the mean with the unshifted weights. -/
theorem mean_shift {ι : Type} [Fintype ι] [Nonempty ι] (s v : ι → ℝ) (M : ℝ) :
    ∑ k, v k * (Real.exp (s k - M) / ∑ k', Real.exp (s k' - M)) = (∑ k, Real.exp (s k) * v k) / ∑ k, Real.exp (s k) := by
  have hM : Real.exp M ≠ 0 := (Real.exp_pos M).ne'
  have hs : (∑ k, Real.exp (s k)) ≠ 0 := (Finset.sum_pos (fun k _ => Real.exp_pos _) Finset.univ_nonempty).ne'
  simp only [Real.exp_sub]
  rw [← Finset.sum_div, Finset.sum_div Finset.univ (fun k => Real.exp (s k) * v k)]
  refine Finset.sum_congr rfl fun k _ => ?_
  field_simp

end Cert.Softmax

end
-- ==== Proof.RefValue.lean ====
/- What the reference computes, entry by entry, over the extended reals. -/
module

public import proofs.«01_k».proof.Proof.Gen.ReferenceIdeal.Run
public import proofs.«01_k».proof.Proof.Softmax

@[expose] public section

set_option maxRecDepth 16384

noncomputable section

namespace Cert.ReferenceIdeal.Att

open Idealize.ShloMosaic Idealize.ShloMosaic.TcCoe Idealize.SL.Sem
open Cert.ReferenceIdeal Cert.ReferenceIdeal.Gen

/-- The scores: queries times keys over the root of 128. -/
def scores (Q K : FVec Ideal S1x2048x16x128 .f32) : FVec Ideal S1x16x2048x2048 .f32 :=
  Host.divf (Host.dotGeneral dot_S1x2048x16x128_S1x2048x16x128_S1x16x2048x2048_3_3_1_1_02_02 none Q K)
    (broadcastInDim S1x16x2048x2048 ![] bcast_S_S1x16x2048x2048 (Host.sqrt (constant S_ .f32 0x43000000#32)))

/-- The largest score of each query. -/
def top (S : FVec Ideal S1x16x2048x2048 .f32) : FVec Ideal S1x16x2048 .f32 :=
  Host.reduce FloatOps.maximumf S (constant S_ .f32 0xFF800000#32) reducesTo_S1x16x2048x2048_S1x16x2048_d3 h_S_

/-- The weights before they are divided by their sum. -/
def weights (S : FVec Ideal S1x16x2048x2048 .f32) (M : FVec Ideal S1x16x2048 .f32) : FVec Ideal S1x16x2048x2048 .f32 :=
  Host.exp (subf S (broadcastInDim S1x16x2048x2048 ![0, 1, 2, 3] bcast_S1x16x2048x1_S1x16x2048x2048_0_1_2_3
    (broadcastInDim S1x16x2048x1 ![0, 1, 2] bcast_S1x16x2048_S1x16x2048x1_0_1_2 M)))

/-- The weighted mean of the values. -/
def mean (V : FVec Ideal S1x2048x16x128 .f32) (E : FVec Ideal S1x16x2048x2048 .f32) : FVec Ideal S1x2048x16x128 .f32 :=
  transpose S1x2048x16x128 [0, 3, 1, 2]
    (Host.dotGeneral dot_S1x2048x16x128_S1x16x2048x2048_S1x16x128x2048_1_3_3_2_02_01 none V
      (Host.divf E (broadcastInDim S1x16x2048x2048 ![0, 1, 2, 3] bcast_S1x16x2048x1_S1x16x2048x2048_0_1_2_3
        (broadcastInDim S1x16x2048x1 ![0, 1, 2] bcast_S1x16x2048_S1x16x2048x1_0_1_2
          (Host.reduceAdd E (constant S_ .f32 0x00000000#32) reducesTo_S1x16x2048x2048_S1x16x2048_d3 h_S_)))))
    transposes_S1x16x128x2048_S1x2048x16x128_0_3_1_2

theorem scores_at (Q K : FVec Ideal S1x2048x16x128 .f32) (h : Fin 16) (q k : Fin 2048) :
    scores Q K (ix4 (0 : Fin 1) h q k)
      = Ideal.div (∑ d : Fin 128, (Q (ix4 (0 : Fin 1) q h d) * K (ix4 (0 : Fin 1) k h d) : EReal)) (Ideal.sqrt (Ideal.ofBits .f32 0x43000000#32)) := by
  unfold scores
  pointwise

theorem reduces_last : S1x16x2048x2048.Reduces [3] S1x16x2048 := by decide

/-- The largest of real scores is real. -/
theorem top_real (S : FVec Ideal S1x16x2048x2048 .f32) (s : S1x16x2048x2048.Idx → ℝ) (hS : ∀ i, S i = (s i : EReal)) (j : S1x16x2048.Idx) :
    ∃ M : ℝ, top S j = (M : EReal) := by
  unfold top
  rw [Host.reduce_eq_fold_single _ _ _ _ reduces_last]
  obtain ⟨M, hM⟩ := Cert.Softmax.fold_max_coe (n := 2047) (fun k => s (reduces_last.lift j k))
  refine ⟨M, Eq.trans ?_ hM⟩
  rw [show S = fun i => (s i : EReal) from funext hS]
  show Finset.fold max (Ideal.ofBits .f32 0xFF800000#32) _ _ = _
  rw [Cert.Softmax.ofBits_bot]
  rfl

theorem weights_at (S : FVec Ideal S1x16x2048x2048 .f32) (M : FVec Ideal S1x16x2048 .f32) (h : Fin 16) (q k : Fin 2048) :
    weights S M (ix4 (0 : Fin 1) h q k) = Ideal.exp (S (ix4 (0 : Fin 1) h q k) - M (ix3 (0 : Fin 1) h q) : EReal) := by
  unfold weights
  pointwise

theorem mean_at (V : FVec Ideal S1x2048x16x128 .f32) (E : FVec Ideal S1x16x2048x2048 .f32) (q : Fin 2048) (h : Fin 16) (d : Fin 128) :
    mean V E (ix4 (0 : Fin 1) q h d)
      = ∑ k : Fin 2048, (V (ix4 (0 : Fin 1) k h d) * Ideal.div (E (ix4 (0 : Fin 1) h q k)) (∑ k' : Fin 2048, (E (ix4 (0 : Fin 1) h q k') : EReal)) : EReal) := by
  unfold mean
  pointwise

end Cert.ReferenceIdeal.Att

end
-- ==== Proof.Algebraic.lean ====
/- The kernel's result and the reference's, met at one real formula, for finite arguments. -/
module

public import proofs.«01_k».proof.Defs
public import proofs.«01_k».proof.Proof.Value
public import proofs.«01_k».proof.Proof.RefValue
public import proofs.«01_k».proof.Proof.Gen.Pre_finite_KernelIdeal

@[expose] public section

set_option maxRecDepth 16384

noncomputable section

namespace Cert.Proof

open Idealize.ShloMosaic Idealize.ShloMosaic.TcCoe Idealize.SL.Sem
open Cert.Softmax

/-- A whole array, and a device's block of it. -/
abbrev Whole : Shape := ⟨4, ![1, 2048, 16, 128]⟩
abbrev Block : Shape := ⟨4, ![1, 1024, 16, 128]⟩

/-- Device `c`'s block of a whole array. -/
abbrev blockOf {α : Type} (c : Dev Cert.KernelIdeal.nD) (w : Whole.Idx → α) : Block.Idx → α :=
  Layout.blockN Block Whole (Layout.meshBlock [2, 2, 4] ![[], [1], [], []] c) w

/-! ## The common formula -/

section Formula
variable (Q K V : Whole.Idx → ℝ)

/-- The score of query `q` on key `k` in head `h`. -/
def score (h : Fin 16) (q k : Fin 2048) : ℝ :=
  (∑ d : Fin 128, Q (ix4 (0 : Fin 1) q h d) * K (ix4 (0 : Fin 1) k h d)) / Real.sqrt 128

/-- The softmax attention over the whole sequence. -/
def attention (q : Fin 2048) (h : Fin 16) (d : Fin 128) : ℝ :=
  (∑ k, Real.exp (score Q K h q k) * V (ix4 (0 : Fin 1) k h d)) / ∑ k, Real.exp (score Q K h q k)

theorem sqrt_ne : Real.sqrt 128 ≠ 0 := (Real.sqrt_pos.2 (by norm_num)).ne'

theorem weights_pos (h : Fin 16) (q : Fin 2048) : (∑ k, Real.exp (score Q K h q k)) ≠ 0 :=
  (Finset.sum_pos (fun _ _ => Real.exp_pos _) Finset.univ_nonempty).ne'

end Formula

/-! ## The kernel's side -/

section KernelSide
open Cert.KernelIdeal Cert.KernelIdeal.Att
variable (m : (ℓ : Loc nD τ sig) → Buf (Elt Ideal) ℓ) (Q K V : Whole.Idx → ℝ)

theorem wgt_real (hQ : ∀ c, argQ m c = blockOf c fun i => (Q i : EReal)) (hK : ∀ c, argK m c = blockOf c fun i => (K i : EReal))
    (c c' : Dev nD) (h : Fin 16) (i j : Fin 1024) :
    wgt m c c' h i j = (Real.exp (score Q K h (spot c i) (spot c' j)) : EReal) := by
  unfold wgt
  simp only [hQ, hK, block_at, ← EReal.coe_mul]
  rw [sum_coe, Ideal.exp2_coe]
  refine congrArg _ (Eq.trans (congrArg (Real.rpow 2) ?_) (rpow_scaled _))
  rw [Finset.sum_mul]
  exact Finset.sum_congr rfl fun d _ => by unfold qScale; ring

theorem outF_real (hQ : ∀ c, argQ m c = blockOf c fun i => (Q i : EReal)) (hK : ∀ c, argK m c = blockOf c fun i => (K i : EReal))
    (hV : ∀ c, argV m c = blockOf c fun i => (V i : EReal)) (c : Dev nD) (i : Fin 1024) (h : Fin 16) (d : Fin 128) :
    (outF m c : S1x1024x16x128.Idx → EReal) (ix4 (0 : Fin 1) i h d) = (attention Q K V (spot c i) h d : EReal) := by
  rw [outF_at]
  simp only [wgt_real m Q K hQ hK, hV, block_at, ← EReal.coe_mul]
  rw [sum_coe, sum_coe, sum_coe, sum_coe, ← EReal.coe_add, ← EReal.coe_add,
    ← sum_blocks c (fun k => Real.exp (score Q K h (spot c i) k) * V (ix4 (0 : Fin 1) k h d)),
    ← sum_blocks c (fun k => Real.exp (score Q K h (spot c i) k)),
    div_coe_coe _ (weights_pos Q K h _)]
  rfl

end KernelSide

/-! ## The reference's side -/

section RefSide
open Cert.ReferenceIdeal Cert.ReferenceIdeal.Att

/-- The reference's term. -/
def refTerm (Q K V : FVec Ideal Whole .f32) : FVec Ideal Whole .f32 :=
  mean V (weights (scores Q K) (top (scores Q K)))

variable (Q K V : Whole.Idx → ℝ)

theorem scores_real (h : Fin 16) (q k : Fin 2048) :
    scores (fun i => (Q i : EReal)) (fun i => (K i : EReal)) (ix4 (0 : Fin 1) h q k) = (score Q K h q k : EReal) := by
  rw [scores_at, ofBits_128, Ideal.sqrt_coe, if_neg (by norm_num)]
  simp only [← EReal.coe_mul]
  rw [sum_coe, div_coe_coe _ sqrt_ne]
  rfl

theorem refTerm_real (q : Fin 2048) (h : Fin 16) (d : Fin 128) :
    refTerm (fun i => (Q i : EReal)) (fun i => (K i : EReal)) (fun i => (V i : EReal)) (ix4 (0 : Fin 1) q h d)
      = (attention Q K V q h d : EReal) := by
  obtain ⟨M, hM⟩ := top_real (scores (fun i => (Q i : EReal)) (fun i => (K i : EReal))) (fun i => score Q K (i 1) (i 2) (i 3))
    (fun i => by
      obtain ⟨a, b, e, f, rfl⟩ : ∃ (a : Fin 1) (b : Fin 16) (e f : Fin 2048), i = ix4 a b e f := ⟨i 0, i 1, i 2, i 3, eq_ix4 i⟩
      obtain rfl : a = 0 := Subsingleton.elim _ _
      exact scores_real Q K b e f) (ix3 (0 : Fin 1) h q)
  unfold refTerm
  rw [mean_at]
  simp only [weights_at, scores_real, hM, ← EReal.coe_sub, Ideal.exp_coe]
  rw [sum_coe]
  have hpos : (∑ k, Real.exp (score Q K h q k - M)) ≠ 0 := (Finset.sum_pos (fun _ _ => Real.exp_pos _) Finset.univ_nonempty).ne'
  simp only [div_coe_coe _ hpos, ← EReal.coe_mul]
  rw [sum_coe]
  exact congrArg _ (mean_shift (fun k => score Q K h q k) (fun k => V (ix4 (0 : Fin 1) k h d)) M)

end RefSide

/-! ## Finite arguments are real -/

theorem real_block (x : FVec Ideal Block .f32) (hb : Cert.Pre_finite_KernelIdeal.S_.BroadcastsInDim Block (![] : Fin 0 → Fin 4))
    (h : cmpf .olt (Host.absf x) (broadcastInDim Block ![] hb (constant Cert.Pre_finite_KernelIdeal.S_ .f32 0x7F800000#32)) = fun _ => 1#1)
    (i : Block.Idx) : ∃ r : ℝ, (x i : EReal) = r := by
  have h' : Ideal.cmp .olt (max (x i : EReal) (-(x i : EReal))) (Ideal.ofBits .f32 0x7F800000#32) = 1#1 := congrFun h i
  rw [ofBits_top] at h'
  refine real_of_abs_lt ?_
  by_contra hn
  simp [Ideal.cmp, hn] at h'

/-- Where every device's block is of reals, the whole is. -/
theorem real_whole (w : Whole.Idx → EReal) (h : ∀ c i, ∃ r : ℝ, blockOf c w i = r) : ∃ W : Whole.Idx → ℝ, w = fun i => (W i : EReal) := by
  have hw : ∀ i, ∃ r : ℝ, w i = r := fun i => by
    obtain ⟨a, t, e, f, rfl⟩ : ∃ (a : Fin 1) (t : Fin 2048) (e : Fin 16) (f : Fin 128), i = ix4 a t e f := ⟨i 0, i 1, i 2, i 3, eq_ix4 i⟩
    obtain rfl : a = 0 := Subsingleton.elim _ _
    obtain ⟨r, hr⟩ := h (⟨t.val / 1024 * 4, by show _ < 16; omega⟩ : Dev Cert.KernelIdeal.nD)
      (ix4 (0 : Fin 1) (⟨t.val % 1024, Nat.mod_lt _ (by decide)⟩ : Fin 1024) e f)
    refine ⟨r, Eq.trans (congrArg w ?_) ((Cert.KernelIdeal.Att.block_at _ w _ e f).symm.trans hr)⟩
    refine congrArg (fun t => ix4 (0 : Fin 1) t e f) (Fin.ext ?_)
    show t.val = t.val / 1024 * 4 / 4 % 2 * 1024 + t.val % 1024
    omega
  exact ⟨fun i => (hw i).choose, funext fun i => (hw i).choose_spec⟩

/-! ## The claim -/

theorem algebraic : Cert.algebraic_KernelIdeal_ReferenceIdeal_pre_finite_KernelIdeal
    (hPre_finite_KernelIdeal := Cert.Pre_finite_KernelIdeal.Gen.facts) := by
  intro m g m' g' hfin hblk
  have hQm (c : Dev Cert.KernelIdeal.nD) : Cert.KernelIdeal.Att.argQ m c = blockOf c _ := (hblk c).1
  have hKm (c : Dev Cert.KernelIdeal.nD) : Cert.KernelIdeal.Att.argK m c = blockOf c _ := (hblk c).2.1
  have hVm (c : Dev Cert.KernelIdeal.nD) : Cert.KernelIdeal.Att.argV m c = blockOf c _ := (hblk c).2.2
  obtain ⟨Q, hQ⟩ := real_whole (m' (((0 : Dev Cert.ReferenceIdeal.nD).tc : Thread Cert.ReferenceIdeal.nD Cert.ReferenceIdeal.τ).loc Cert.ReferenceIdeal.main_arg0))
    fun c i => by rw [← hQm c]; exact real_block _ _ (hfin c).1 i
  obtain ⟨K, hK⟩ := real_whole (m' (((0 : Dev Cert.ReferenceIdeal.nD).tc : Thread Cert.ReferenceIdeal.nD Cert.ReferenceIdeal.τ).loc Cert.ReferenceIdeal.main_arg1))
    fun c i => by rw [← hKm c]; exact real_block _ _ (hfin c).2.1 i
  obtain ⟨V, hV⟩ := real_whole (m' (((0 : Dev Cert.ReferenceIdeal.nD).tc : Thread Cert.ReferenceIdeal.nD Cert.ReferenceIdeal.τ).loc Cert.ReferenceIdeal.main_arg2))
    fun c i => by rw [← hVm c]; exact real_block _ _ (hfin c).2.2 i
  rw [hQ] at hQm
  rw [hK] at hKm
  rw [hV] at hVm
  refine ⟨refTerm (fun i => (Q i : EReal)) (fun i => (K i : EReal)) (fun i => (V i : EReal)), ?_, ?_⟩
  · refine (θ_run Cert.KernelIdeal.defs _ _).mono (fun r h c => ?_) (Cert.KernelIdeal.Att.run_main (F := Ideal) m g)
    refine ⟨(h.1 c).2.2.2.trans ?_, (h.1 c).1, (h.1 c).2.1, (h.1 c).2.2.1⟩
    refine funext fun i => ?_
    obtain ⟨a, t, e, f, rfl⟩ : ∃ (a : Fin 1) (t : Fin 1024) (e : Fin 16) (f : Fin 128), i = ix4 a t e f := ⟨i 0, i 1, i 2, i 3, eq_ix4 i⟩
    obtain rfl : a = 0 := Subsingleton.elim _ _
    exact (outF_real m Q K V hQm hKm hVm c t e f).trans
      ((refTerm_real Q K V _ e f).symm.trans (Cert.KernelIdeal.Att.block_at c _ t e f).symm)
  · refine (θ_run Cert.ReferenceIdeal.defs _ _).mono (fun r h => ⟨(h 0).1.trans ?_, (h 0).2⟩) (Cert.ReferenceIdeal.Value.run (F := Ideal) m' g')
    rw [← hQ, ← hK, ← hV]
    rfl

end Cert.Proof

end
-- ==== Proof.lean ====
module

public import proofs.«01_k».proof.Defs
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts,
    Cert.Pre_finite_KernelIdeal.Gen.facts, Cert.Pre_finite_ReferenceIdeal.Gen.facts,
    frame_p, frame_pi, frame_pi_finite, frame_ri, frame_ri_finite, preserves_p, algebraic⟩

end Cert.Proof

end
